-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![768, 512]⟩ ⟨2, ![768, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)

variable [Facts]

def fn {F : FTy → Type} [FloatOps F] (main_arg0 : FVec F S768x512 .bf16) (main_arg1 : FVec F S512 .bf16) (main_arg2 : FVec F S512 .bf16) : IVec S768x512 1 :=
  let main_v0 : FVec F S768x512 .bf16 := Host.absf main_arg0
  let main_cst : FVec F S_ .bf16 := constant S_ .bf16 0x7F80#16
  let main_v1 : FVec F S768x512 .bf16 := broadcastInDim S768x512 ![] bcast_S_S768x512 main_cst
  let main_v2 : IVec S768x512 1 := cmpf .olt main_v0 main_v1
  main_v2
-- ==== Pre_finite_x_ReferenceIdeal.lean ====
abbrev S768x8192 : Shape := ⟨2, ![768, 8192]⟩
abbrev S8192 : Shape := ⟨1, ![8192]⟩
abbrev S_ : Shape := ⟨0, ![]⟩

class Facts : Prop where
  bcast_S_S768x8192 : S_.BroadcastsInDim S768x8192 (![] : Fin 0 → Fin S768x8192.rank)

variable [Facts]

def fn {F : FTy → Type} [FloatOps F] (main_arg0 : FVec F S768x8192 .bf16) (main_arg1 : FVec F S8192 .bf16) (main_arg2 : FVec F S8192 .bf16) : IVec S768x8192 1 :=
  let main_v0 : FVec F S768x8192 .bf16 := Host.absf main_arg0
  let main_cst : FVec F S_ .bf16 := constant S_ .bf16 0x7F80#16
  let main_v1 : FVec F S768x8192 .bf16 := broadcastInDim S768x8192 ![] bcast_S_S768x8192 main_cst
  let main_v2 : IVec S768x8192 1 := cmpf .olt main_v0 main_v1
  main_v2
-- ==== Kernel.lean ====
abbrev S768x512 : Shape := ⟨2, ![768, 512]⟩
abbrev S512 : Shape := ⟨1, ![512]⟩
abbrev S1x512 : Shape := ⟨2, ![1, 512]⟩
abbrev S16x2x768 : Shape := ⟨3, ![16, 2, 768]⟩
abbrev S15 : Shape := ⟨1, ![15]⟩
abbrev S_ : Shape := ⟨0, ![]⟩
abbrev S768 : Shape := ⟨1, ![768]⟩
abbrev S1x768 : Shape := ⟨2, ![1, 768]⟩
abbrev S2x768 : Shape := ⟨2, ![2, 768]⟩
abbrev S1x2x768 : Shape := ⟨3, ![1, 2, 768]⟩
abbrev S1 : Shape := ⟨1, ![1]⟩
abbrev S768x1 : Shape := ⟨2, ![768, 1]⟩

abbrev nBuf : Space → Nat
  | .hbm => 6
  | .vmem => 5
  | .smem => 0
  | _ => 0

abbrev bufTy : (tb : Table) → Fin (tcTables nBuf tb) → BufTy
  | .hbm, ⟨0, _⟩ => ⟨S768x512, .bf16⟩
  | .hbm, ⟨1, _⟩ => ⟨S512, .bf16⟩
  | .hbm, ⟨2, _⟩ => ⟨S512, .bf16⟩
  | .hbm, ⟨3, _⟩ => ⟨S1x512, .bf16⟩
  | .hbm, ⟨4, _⟩ => ⟨S1x512, .bf16⟩
  | .hbm, ⟨5, _⟩ => ⟨S768x512, .bf16⟩
  | .local _ .vmem, ⟨0, _⟩ => ⟨S768x512, .bf16⟩
  | .local _ .vmem, ⟨1, _⟩ => ⟨S1x512, .bf16⟩
  | .local _ .vmem, ⟨2, _⟩ => ⟨S1x512, .bf16⟩
  | .local _ .vmem, ⟨3, _⟩ => ⟨S768x512, .bf16⟩
  | .local _ .vmem, ⟨4, _⟩ => ⟨S16x2x768, .f32⟩
  | _, _ => ⟨S768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v76 : BitVec 32 := Scalar.addi v2 c1_i32_66
  let c16_i32_67 : BitVec 32 := 16#32
  let v77 : BitVec 32 := Scalar.remsi v76 c16_i32_67
  let c1_i32_72 : BitVec 32 := 1#32
  let v78 : BitVec 32 := Scalar.muli v77 c1_i32_72
  let v79 : BitVec 32 := Scalar.addi c0_i32_73 v78
  v79.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_78 : BitVec 32 := 2#32
  let v88 : BitVec 32 := Scalar.addi v2 c2_i32_78
  let c16_i32_79 : BitVec 32 := 16#32
  let v89 : BitVec 32 := Scalar.remsi v88 c16_i32_79
  let c1_i32_84 : BitVec 32 := 1#32
  let v90 : BitVec 32 := Scalar.muli v89 c1_i32_84
  let v91 : BitVec 32 := Scalar.addi c0_i32_85 v90
  v91.toNat
def k0_dev18 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_90 : BitVec 32 := 3#32
  let v100 : BitVec 32 := Scalar.addi v2 c3_i32_90
  let c16_i32_91 : BitVec 32 := 16#32
  let v101 : BitVec 32 := Scalar.remsi v100 c16_i32_91
  let c1_i32_96 : BitVec 32 := 1#32
  let v102 : BitVec 32 := Scalar.muli v101 c1_i32_96
  let v103 : BitVec 32 := Scalar.addi c0_i32_97 v102
  v103.toNat
def k0_dev19 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_102 : BitVec 32 := 4#32
  let v112 : BitVec 32 := Scalar.addi v2 c4_i32_102
  let c16_i32_103 : BitVec 32 := 16#32
  let v113 : BitVec 32 := Scalar.remsi v112 c16_i32_103
  let c1_i32_108 : BitVec 32 := 1#32
  let v114 : BitVec 32 := Scalar.muli v113 c1_i32_108
  let v115 : BitVec 32 := Scalar.addi c0_i32_109 v114
  v115.toNat
def k0_dev20 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_114 : BitVec 32 := 5#32
  let v124 : BitVec 32 := Scalar.addi v2 c5_i32_114
  let c16_i32_115 : BitVec 32 := 16#32
  let v125 : BitVec 32 := Scalar.remsi v124 c16_i32_115
  let c1_i32_120 : BitVec 32 := 1#32
  let v126 : BitVec 32 := Scalar.muli v125 c1_i32_120
  let v127 : BitVec 32 := Scalar.addi c0_i32_121 v126
  v127.toNat
def k0_dev21 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_126 : BitVec 32 := 6#32
  let v136 : BitVec 32 := Scalar.addi v2 c6_i32_126
  let c16_i32_127 : BitVec 32 := 16#32
  let v137 : BitVec 32 := Scalar.remsi v136 c16_i32_127
  let c1_i32_132 : BitVec 32 := 1#32
  let v138 : BitVec 32 := Scalar.muli v137 c1_i32_132
  let v139 : BitVec 32 := Scalar.addi c0_i32_133 v138
  v139.toNat
def k0_dev22 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_138 : BitVec 32 := 7#32
  let v148 : BitVec 32 := Scalar.addi v2 c7_i32_138
  let c16_i32_139 : BitVec 32 := 16#32
  let v149 : BitVec 32 := Scalar.remsi v148 c16_i32_139
  let c1_i32_144 : BitVec 32 := 1#32
  let v150 : BitVec 32 := Scalar.muli v149 c1_i32_144
  let v151 : BitVec 32 := Scalar.addi c0_i32_145 v150
  v151.toNat
def k0_dev23 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_150 : BitVec 32 := 8#32
  let v160 : BitVec 32 := Scalar.addi v2 c8_i32_150
  let c16_i32_151 : BitVec 32 := 16#32
  let v161 : BitVec 32 := Scalar.remsi v160 c16_i32_151
  let c1_i32_156 : BitVec 32 := 1#32
  let v162 : BitVec 32 := Scalar.muli v161 c1_i32_156
  let v163 : BitVec 32 := Scalar.addi c0_i32_157 v162
  v163.toNat
def k0_dev24 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_162 : BitVec 32 := 9#32
  let v172 : BitVec 32 := Scalar.addi v2 c9_i32_162
  let c16_i32_163 : BitVec 32 := 16#32
  let v173 : BitVec 32 := Scalar.remsi v172 c16_i32_163
  let c1_i32_168 : BitVec 32 := 1#32
  let v174 : BitVec 32 := Scalar.muli v173 c1_i32_168
  let v175 : BitVec 32 := Scalar.addi c0_i32_169 v174
  v175.toNat
def k0_dev25 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_174 : BitVec 32 := 10#32
  let v184 : BitVec 32 := Scalar.addi v2 c10_i32_174
  let c16_i32_175 : BitVec 32 := 16#32
  let v185 : BitVec 32 := Scalar.remsi v184 c16_i32_175
  let c1_i32_180 : BitVec 32 := 1#32
  let v186 : BitVec 32 := Scalar.muli v185 c1_i32_180
  let v187 : BitVec 32 := Scalar.addi c0_i32_181 v186
  v187.toNat
def k0_dev26 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_186 : BitVec 32 := 11#32
  let v196 : BitVec 32 := Scalar.addi v2 c11_i32_186
  let c16_i32_187 : BitVec 32 := 16#32
  let v197 : BitVec 32 := Scalar.remsi v196 c16_i32_187
  let c1_i32_192 : BitVec 32 := 1#32
  let v198 : BitVec 32 := Scalar.muli v197 c1_i32_192
  let v199 : BitVec 32 := Scalar.addi c0_i32_193 v198
  v199.toNat
def k0_dev27 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_198 : BitVec 32 := 12#32
  let v208 : BitVec 32 := Scalar.addi v2 c12_i32_198
  let c16_i32_199 : BitVec 32 := 16#32
  let v209 : BitVec 32 := Scalar.remsi v208 c16_i32_199
  let c1_i32_204 : BitVec 32 := 1#32
  let v210 : BitVec 32 := Scalar.muli v209 c1_i32_204
  let v211 : BitVec 32 := Scalar.addi c0_i32_205 v210
  v211.toNat
def k0_dev28 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_210 : BitVec 32 := 13#32
  let v220 : BitVec 32 := Scalar.addi v2 c13_i32_210
  let c16_i32_211 : BitVec 32 := 16#32
  let v221 : BitVec 32 := Scalar.remsi v220 c16_i32_211
  let c1_i32_216 : BitVec 32 := 1#32
  let v222 : BitVec 32 := Scalar.muli v221 c1_i32_216
  let v223 : BitVec 32 := Scalar.addi c0_i32_217 v222
  v223.toNat
def k0_dev29 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_222 : BitVec 32 := 14#32
  let v232 : BitVec 32 := Scalar.addi v2 c14_i32_222
  let c16_i32_223 : BitVec 32 := 16#32
  let v233 : BitVec 32 := Scalar.remsi v232 c16_i32_223
  let c1_i32_228 : BitVec 32 := 1#32
  let v234 : BitVec 32 := Scalar.muli v233 c1_i32_228
  let v235 : BitVec 32 := Scalar.addi c0_i32_229 v234
  v235.toNat
def k0_dev30 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_234 : BitVec 32 := 15#32
  let v244 : BitVec 32 := Scalar.addi v2 c15_i32_234
  let c16_i32_235 : BitVec 32 := 16#32
  let v245 : BitVec 32 := Scalar.remsi v244 c16_i32_235
  let c1_i32_240 : BitVec 32 := 1#32
  let v246 : BitVec 32 := Scalar.muli v245 c1_i32_240
  let v247 : BitVec 32 := Scalar.addi c0_i32_241 v246
  v247.toNat
abbrev stage0_0 : Fin 1 → Memref sig .tc .vmem S768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x8192 : Shape := ⟨2, ![768, 8192]⟩
abbrev S8192 : Shape := ⟨1, ![8192]⟩
abbrev S_ : Shape := ⟨0, ![]⟩
abbrev S768 : Shape := ⟨1, ![768]⟩
abbrev S768x1 : Shape := ⟨2, ![768, 1]⟩
abbrev S1x8192 : Shape := ⟨2, ![1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S768x8192, .bf16⟩
  | .hbm, ⟨1, _⟩ => ⟨S8192, .bf16⟩
  | .hbm, ⟨2, _⟩ => ⟨S8192, .bf16⟩
  | .hbm, ⟨3, _⟩ => ⟨S768x8192, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S768, .f32⟩
  | .hbm, ⟨8, _⟩ => ⟨S768x1, .f32⟩
  | .hbm, ⟨9, _⟩ => ⟨S_, .f32⟩
  | .hbm, ⟨10, _⟩ => ⟨S768x1, .f32⟩
  | .hbm, ⟨11, _⟩ => ⟨S768x1, .f32⟩
  | .hbm, ⟨12, _⟩ => ⟨S_, .i32⟩
  | .hbm, ⟨13, _⟩ => ⟨S_, .f32⟩
  | .hbm, ⟨14, _⟩ => ⟨S768, .f32⟩
  | .hbm, ⟨15, _⟩ => ⟨S768x1, .f32⟩
  | .hbm, ⟨16, _⟩ => ⟨S_, .f32⟩
  | .hbm, ⟨17, _⟩ => ⟨S768x1, .f32⟩
  | .hbm, ⟨18, _⟩ => ⟨S768x1, .f32⟩
  | .hbm, ⟨19, _⟩ => ⟨S768x8192, .f32⟩
  | .hbm, ⟨20, _⟩ => ⟨S768x8192, .f32⟩
  | .hbm, ⟨21, _⟩ => ⟨S768x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S768, .f32⟩
  | .hbm, ⟨27, _⟩ => ⟨S768x1, .f32⟩
  | .hbm, ⟨28, _⟩ => ⟨S768x1, .f32⟩
  | .hbm, ⟨29, _⟩ => ⟨S768x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S768x1, .f32⟩
  | .hbm, ⟨35, _⟩ => ⟨S768x1, .f32⟩
  | .hbm, ⟨36, _⟩ => ⟨S768x8192, .f32⟩
  | .hbm, ⟨37, _⟩ => ⟨S768x8192, .f32⟩
  | .hbm, ⟨38, _⟩ => ⟨S1x8192, .f32⟩
  | .hbm, ⟨39, _⟩ => ⟨S768x8192, .f32⟩
  | .hbm, ⟨40, _⟩ => ⟨S768x8192, .f32⟩
  | .hbm, ⟨41, _⟩ => ⟨S_, .f32⟩
  | .hbm, ⟨42, _⟩ => ⟨S768x1, .f32⟩
  | .hbm, ⟨43, _⟩ => ⟨S768x1, .f32⟩
  | .hbm, ⟨44, _⟩ => ⟨S768x1, .f32⟩
  | .hbm, ⟨45, _⟩ => ⟨S768x8192, .f32⟩
  | .hbm, ⟨46, _⟩ => ⟨S768x8192, .f32⟩
  | .hbm, ⟨47, _⟩ => ⟨S1x8192, .f32⟩
  | .hbm, ⟨48, _⟩ => ⟨S768x8192, .f32⟩
  | .hbm, ⟨49, _⟩ => ⟨S768x8192, .f32⟩
  | .hbm, ⟨50, _⟩ => ⟨S768x8192, .bf16⟩
  | _, _ => ⟨S768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.Body.lean ====
/-
  The kernel's body as three loops: the barrier signals, the remote copies and the pairs of waits, each over the fifteen
  offsets, with the vector work between them. The printed body is this program by unfolding.
-/
module

public import proofs.«01_k».proof.Proof.Gen.KernelIdeal.Skeleton
public import proofs.«01_k».proof.Proof.Gen.KernelIdeal.Points
public import Idealize.ShloMosaic.Lib.Tactic

@[expose] public section

noncomputable section

namespace Cert.KernelIdeal.Body

open Idealize.ShloMosaic Idealize.ShloMosaic.TcCoe
open Idealize.SL.Sem
open Cert.KernelIdeal.Gen

variable {F : FTy → Type} [FloatOps F]

/-! ## Who talks to whom -/

/-- The device `k + 1` places after device `c` round the ring. -/
def tgt (c : Dev nD) (k : Fin 15) : Dev nD := ⟨(c.val + k.val + 1) % 16, Nat.mod_lt _ (by decide)⟩
/-- The device `k + 1` places before device `c`. -/
def src (c : Dev nD) (k : Fin 15) : Dev nD := ⟨(c.val + 15 - k.val) % 16, Nat.mod_lt _ (by decide)⟩
/-- The offset that leads back. -/
def dual (k : Fin 15) : Fin 15 := ⟨14 - k.val, by omega⟩

theorem dual_dual : ∀ k : Fin 15, dual (dual k) = k := by decide +kernel
theorem tgt_dual : ∀ (c : Dev nD) (k : Fin 15), tgt (tgt c k) (dual k) = c := by decide +kernel
theorem tgt_src : ∀ (c : Dev nD) (k : Fin 15), tgt (src c k) k = c := by decide +kernel
theorem src_tgt : ∀ (c : Dev nD) (k : Fin 15), src (tgt c k) k = c := by decide +kernel
theorem src_eq : ∀ (c : Dev nD) (k : Fin 15), src c k = tgt c (dual k) := by decide +kernel

/-- Slot `k + 1`, where the copy of offset `k` lands. -/
def succ16 (k : Fin 15) : Fin 16 := k.succ

/-! ## Slots and semaphores -/

theorem inb_slot (j : Fin 16) : ∀ a : Fin 3, (![j.val, 0, 0] : Fin 3 → ℕ) a + S1x2x768.size a ≤ S16x2x768.size a := by
  revert j; decide +kernel
theorem inb_sem (k : Fin 15) : ∀ a : Fin 1, (![k.val] : Fin 1 → ℕ) a + S1.size a ≤ S15.size a := by
  revert k; decide +kernel

/-- Slot `j` of the scratch, as the copies and waits address it. -/
abbrev slotM (j : Fin 16) : Memref sig .tc .vmem S2x768 .f32 :=
  ((Memref.whole cc0_scratch0).slice (Rect.unit (s := S16x2x768) ![j.val, 0, 0] S1x2x768.size (inb_slot j)) (fun _ => rfl)).squeeze
    S2x768 squeezes_S1x2x768_S2x768

/-- The semaphore the copy of offset `k` credits at its sender, -/
def sendSem (k : Fin 15) : DmaSem sig :=
  ((cc0_scratch1.slice (Rect.unit (s := S15) ![k.val] S1.size (inb_sem k))).squeeze S_ squeezes_S1_S_).sem
/-- and the one it credits at its target. -/
def recvSem (k : Fin 15) : DmaSem sig :=
  ((cc0_scratch2.slice (Rect.unit (s := S15) ![k.val] S1.size (inb_sem k))).squeeze S_ squeezes_S1_S_).sem
/-- The barrier semaphore. -/
abbrev barSem : Sem sig := (SemArray.scalar (sig.barrier 0 rfl) : Sems sig S_).sem

/-! ## The program -/

/-- The signals' targets, as printed. -/
def sigs (c : Dev nD) : List (Dev nD × Fin 15) :=
  [(⟨k0_dev1 c, k0_dev1_lt c⟩, 0), (⟨k0_dev2 c, k0_dev2_lt c⟩, 1), (⟨k0_dev3 c, k0_dev3_lt c⟩, 2), (⟨k0_dev4 c, k0_dev4_lt c⟩, 3), (⟨k0_dev5 c, k0_dev5_lt c⟩, 4), (⟨k0_dev6 c, k0_dev6_lt c⟩, 5), (⟨k0_dev7 c, k0_dev7_lt c⟩, 6), (⟨k0_dev8 c, k0_dev8_lt c⟩, 7), (⟨k0_dev9 c, k0_dev9_lt c⟩, 8), (⟨k0_dev10 c, k0_dev10_lt c⟩, 9), (⟨k0_dev11 c, k0_dev11_lt c⟩, 10), (⟨k0_dev12 c, k0_dev12_lt c⟩, 11), (⟨k0_dev13 c, k0_dev13_lt c⟩, 12), (⟨k0_dev14 c, k0_dev14_lt c⟩, 13), (⟨k0_dev15 c, k0_dev15_lt c⟩, 14)]
/-- The copies' targets, as printed. -/
def sends (c : Dev nD) : List (Dev nD × Fin 15) :=
  [(⟨k0_dev16 c, k0_dev16_lt c⟩, 0), (⟨k0_dev17 c, k0_dev17_lt c⟩, 1), (⟨k0_dev18 c, k0_dev18_lt c⟩, 2), (⟨k0_dev19 c, k0_dev19_lt c⟩, 3), (⟨k0_dev20 c, k0_dev20_lt c⟩, 4), (⟨k0_dev21 c, k0_dev21_lt c⟩, 5), (⟨k0_dev22 c, k0_dev22_lt c⟩, 6), (⟨k0_dev23 c, k0_dev23_lt c⟩, 7), (⟨k0_dev24 c, k0_dev24_lt c⟩, 8), (⟨k0_dev25 c, k0_dev25_lt c⟩, 9), (⟨k0_dev26 c, k0_dev26_lt c⟩, 10), (⟨k0_dev27 c, k0_dev27_lt c⟩, 11), (⟨k0_dev28 c, k0_dev28_lt c⟩, 12), (⟨k0_dev29 c, k0_dev29_lt c⟩, 13), (⟨k0_dev30 c, k0_dev30_lt c⟩, 14)]

theorem sigs_eq : ∀ c : Dev nD, sigs c = (List.finRange 15).map fun k => (tgt c k, k) := by decide +kernel
theorem sends_eq : ∀ c : Dev nD, sends c = (List.finRange 15).map fun k => (tgt c k, k) := by decide +kernel

abbrev PP (F : FTy → Type) := Prog (TpuEff nD τ sig (Elt F) Λ₀ .tc) PUnit

/-- Signal every listed device's barrier semaphore, then go on. -/
def signalAll (l : List (Dev nD × Fin 15)) (K : PP F) : PP F :=
  l.foldr (fun p P => .op (.semSignal (Dev.tc p.1) barSem ((1 : ℕ) : ℤ)) fun _ => P) K

/-- Start the copy of slot 0 into slot `k + 1` of every listed device, then go on. -/
def sendAll (l : List (Dev nD × Fin 15)) (K : PP F) : PP F :=
  l.foldr (fun p P => .op (.enqueueDma (slotM 0) (.remote (Dev.tc p.1) (slotM (succ16 p.2)) (.dma (sendSem p.2)))
    (.dma (recvSem p.2)) ((View.wordExact_bits rfl).reshape _ _) ((View.wordExact_bits rfl).reshape _ _)
    ⟨⟨rfl, Or.inl rfl⟩, trivial⟩) fun _ => P) K

/-- For every listed offset wait for the own copy to have been read and for the incoming one to have landed, then go on. -/
def waitAll (l : List (Fin 15)) (K : PP F) : PP F :=
  l.foldr (fun k P =>
    .op (.waitDma2 (sendSem k) (slotM (succ16 k)) (slotM 0) ((View.wordExact_bits rfl).reshape _ _) ((View.wordExact_bits rfl).reshape _ _))
      fun _ =>
    .op (.waitDma2 (recvSem k) (slotM 0) (slotM (succ16 k)) ((View.wordExact_bits rfl).reshape _ _) ((View.wordExact_bits rfl).reshape _ _))
      fun _ => P) K

/-- The last step: what is computed from the own block, the gathered sums and the two parameters goes to the result. -/
def finish (arg0 : Memref sig .tc .vmem S768x512 .bf16) (arg1 : Memref sig .tc .vmem S1x512 .bf16)
    (arg2 : Memref sig .tc .vmem S1x512 .bf16) (arg3 : Memref sig .tc .vmem S768x512 .bf16) (harg3 : arg3.IsWhole)
    (x : Vec F S768x512 .bf16) : PP F :=
  .op (.load (Memref.whole cc0_scratch0) (Rect.unit (s := S16x2x768) ![0, 0, 0] S16x2x768.size inb_S16x2x768_S16x2x768_0_0_0).toLoadRect
    (View.loadsAt_vmem h_S16x2x768)) fun s =>
  .op (.load arg1 (Rect.unit (s := S1x512) ![0, 0] S1x512.size inb_S1x512_S1x512_0_0).toLoadRect (View.loadsAt_vmem h_S1x512)) fun g =>
  .op (.load arg2 (Rect.unit (s := S1x512) ![0, 0] S1x512.size inb_S1x512_S1x512_0_0).toLoadRect (View.loadsAt_vmem h_S1x512)) fun b =>
  .op (.load arg3 (Rect.unit (s := S768x512) ![0, 0] S768x512.size inb_S768x512_S768x512_0_0).toLoadRect (View.loadsAt_vmem h_S768x512))
    fun _ =>
  .op (.store arg3 (Rect.unit (s := S768x512) ![0, 0] S768x512.size inb_S768x512_S768x512_0_0)
    (k0_pay1 (k0_pay4 (k0_pay2 x) s g) b) Finset.univ
    (View.stores_vmem h_S768x512 (harg3.storeExact_slice rfl _ packedbf16_S768x512_S768x512_0_0) (fun _ => rfl)) (.inl rfl)) fun _ => .ret ⟨⟩

/-- The body from the signals on. -/
def kbody (arg0 : Memref sig .tc .vmem S768x512 .bf16) (arg1 : Memref sig .tc .vmem S1x512 .bf16)
    (arg2 : Memref sig .tc .vmem S1x512 .bf16) (arg3 : Memref sig .tc .vmem S768x512 .bf16) (harg3 : arg3.IsWhole) : PP F :=
  .op .deviceId fun c =>
  signalAll (sigs c) <|
  .op (.load arg0 (Rect.unit (s := S768x512) ![0, 0] S768x512.size inb_S768x512_S768x512_0_0).toLoadRect (View.loadsAt_vmem h_S768x512))
    fun x =>
  .op (.load (Memref.whole cc0_scratch0) (Rect.unit (s := S16x2x768) ![0, 0, 0] S1x2x768.size inb_S16x2x768_S1x2x768_0_0_0).toLoadRect
    (View.loadsAt_vmem h_S1x2x768)) fun _ =>
  .op (.store (Memref.whole cc0_scratch0) (Rect.unit (s := S16x2x768) ![0, 0, 0] S1x2x768.size inb_S16x2x768_S1x2x768_0_0_0)
    (k0_pay3 x) Finset.univ (View.stores_vmem_bits_univ h_S1x2x768 rfl) (.inl rfl)) fun _ =>
  .op (.semWait barSem ((15 : ℕ) : ℤ)) fun _ =>
  sendAll (sends c) <|
  waitAll [0, 1, 2, 3, 4, 5, 6, 7, 8, 9, 10, 11, 12, 13, 14] <|
  finish arg0 arg1 arg2 arg3 harg3 x

set_option maxRecDepth 65536 in
/-- The printed body is the looped one. -/
theorem cc0_body_eq (arg0 : Memref sig .tc .vmem S768x512 .bf16) (harg0 : arg0.IsWhole) (arg1 : Memref sig .tc .vmem S1x512 .bf16)
    (harg1 : arg1.IsWhole) (arg2 : Memref sig .tc .vmem S1x512 .bf16) (harg2 : arg2.IsWhole)
    (arg3 : Memref sig .tc .vmem S768x512 .bf16) (harg3 : arg3.IsWhole) :
    cc0_body (F := F) arg0 harg0 arg1 harg1 arg2 harg2 arg3 harg3 (Memref.whole cc0_scratch0) (Memref.isWhole_whole _) cc0_scratch1
      cc0_scratch2 = kbody arg0 arg1 arg2 arg3 harg3 := rfl

end Cert.KernelIdeal.Body

end
-- ==== Proof.Slots.lean ====
/-
  The scratch buffer's sixteen slots: which elements each covers, and what slot `j` of device `c` holds once every
  device's partial sums have arrived, namely the sums of the device `j` places before `c`.
-/
module

public import proofs.«01_k».proof.Proof.Body
public import Idealize.ShloMosaic.Lib.ViewIndex

@[expose] public section

noncomputable section

namespace Cert.KernelIdeal.Body

open Idealize.ShloMosaic Idealize.ShloMosaic.TcCoe
open Idealize.SL.Sem
open Cert.KernelIdeal.Gen

variable {F : FTy → Type} [FloatOps F]

/-- The elements of slot `j`. -/
abbrev slotSet (j : Fin 16) : Finset S16x2x768.Idx := (slotM j).view.set

theorem mem_slot {j : Fin 16} {i : S16x2x768.Idx} : i ∈ slotSet j ↔ (i 0).val = j.val := by
  have e : slotSet j = (Rect.unit (s := S16x2x768) ![j.val, 0, 0] S1x2x768.size (inb_slot j)).set :=
    (View.set_reshape _ _).trans (View.set_slice_whole _ _)
  rw [e, Rect.mem_set_unit]
  constructor
  · intro h
    have h0 := h 0
    change j.val ≤ (i 0).val ∧ (i 0).val < j.val + 1 at h0
    omega
  · intro h a
    match a with
    | ⟨0, _⟩ => exact ⟨h.ge, Nat.lt_succ_of_le h.le⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

theorem slot_disjoint (j j' : Fin 16) (h : j ≠ j') : Disjoint (slotSet j) (slotSet j') := by
  rw [Finset.disjoint_left]
  intro i h₁ h₂
  exact h (Fin.ext ((mem_slot.mp h₁).symm.trans (mem_slot.mp h₂)))

theorem slot_cover : Finset.univ.biUnion slotSet = Finset.univ := by
  ext i
  simp only [Finset.mem_biUnion, Finset.mem_univ, true_and, iff_true]
  exact ⟨⟨(i 0).val, (i 0).isLt⟩, mem_slot.mpr rfl⟩

/-- The first store's and load's rectangle is slot 0. -/
theorem access_slot0 : ((Memref.whole cc0_scratch0).access (Rect.unit (s := S16x2x768) ![0, 0, 0] S1x2x768.size
    inb_S16x2x768_S1x2x768_0_0_0) : View sig .tc _ _ _).set = slotSet 0 :=
  (View.set_reshape _ _).symm

/-! ## Where a slot's elements sit -/

theorem slot_emb_zero (j : Fin 16) (x : S2x768.Idx) : ((slotM j).view.emb x 0).val = j.val :=
  mem_slot.mp (View.emb_mem_set _ x)

theorem slot_emb_val (j : Fin 16) (x : S2x768.Idx) (a : Fin 2) : ((slotM j).view.emb x a.succ).val = (x a).val := by
  have e : Shape.reshapeEquiv (squeezes_S1x2x768_S2x768.numel_eq) x = (Fin.cons (⟨0, Nat.one_pos⟩ : Fin 1) x : S1x2x768.Idx) :=
    Shape.reshapeEquiv_eq_of_rowMajor _ (by
      rw [Shape.rowMajor_val_three, Shape.rowMajor_val_two]
      show (0 * 2 + (x 0).val) * 768 + (x 1).val = (x 0).val * 768 + (x 1).val
      omega)
  show ((Rect.unit (s := S16x2x768) ![j.val, 0, 0] S1x2x768.size (inb_slot j)).emb (Shape.reshapeEquiv _ x) a.succ).val = _
  rw [e, Rect.emb_apply]
  match a with
  | ⟨0, _⟩ => exact (Nat.zero_add _).trans (Nat.one_mul _)
  | ⟨1, _⟩ => exact (Nat.zero_add _).trans (Nat.one_mul _)

/-! ## What the slots hold -/

/-- The device `j` places before `c`. -/
def from16 (c : Dev nD) (j : Fin 16) : Dev nD := ⟨(c.val + 16 - j.val) % 16, Nat.mod_lt _ (by decide)⟩

theorem from16_zero : ∀ c : Dev nD, from16 c 0 = c := by decide +kernel
theorem from16_tgt : ∀ (c : Dev nD) (k : Fin 15), from16 (tgt c k) (succ16 k) = c := by decide +kernel

/-- One entry of a device's partial sums. -/
abbrev sumIdx (i : S16x2x768.Idx) : S1x2x768.Idx := fun
  | ⟨0, _⟩ => ⟨0, Nat.one_pos⟩
  | ⟨1, _⟩ => i 1
  | ⟨2, _⟩ => i 2

/-- Device `c`'s scratch with every device's partial sums in it, the devices' blocks being `X`. -/
def gath (X : Dev nD → Vec F S768x512 .bf16) (c : Dev nD) : Vec F S16x2x768 .f32 := fun i =>
  k0_pay3 (X (from16 c (i 0))) (sumIdx i)

theorem gath_apply (X : Dev nD → Vec F S768x512 .bf16) (c : Dev nD) (i : S16x2x768.Idx) (j : Fin 16) (h : (i 0).val = j.val) :
    gath X c i = k0_pay3 (X (from16 c j)) (sumIdx i) := by
  unfold gath
  rw [show (i 0 : Fin 16) = j from Fin.ext h]

/-- The first store writes the own sums: what the gathered scratch holds in slot 0. -/
theorem stored (X : Dev nD → Vec F S768x512 .bf16) (c : Dev nD) (f : Vec F S16x2x768 .f32) :
    ∀ i ∈ slotSet 0, (((Memref.whole cc0_scratch0).access (Rect.unit (s := S16x2x768) ![0, 0, 0] S1x2x768.size
      inb_S16x2x768_S1x2x768_0_0_0) : View sig .tc _ _ _).write (Elt F) f (k0_pay3 (X c)) Finset.univ) i = gath X c i := by
  intro i hi
  rw [← access_slot0] at hi
  obtain ⟨y, -, rfl⟩ := Finset.mem_map.mp hi
  rw [View.write_emb_of_mem _ _ (Finset.mem_univ y)]
  rw [gath_apply X c _ 0 (by rw [access_slot0] at hi; exact mem_slot.mp hi), from16_zero]
  show k0_pay3 (X c) y = _
  refine congrArg (k0_pay3 (X c)) (Shape.idx3_ext ?_ ?_ ?_)
  · have := (y 0).isLt; change (y 0).val < 1 at this; show (y 0).val = 0; omega
  · show (y 1).val = 0 + 1 * (y 1).val; omega
  · show (y 2).val = 0 + 1 * (y 2).val; omega

/-- The copy of offset `k` leaves in the target's slot what the target's gathered scratch holds there. -/
theorem landed (X : Dev nD → Vec F S768x512 .bf16) (c : Dev nD) (k : Fin 15) (fd : Vec F S16x2x768 .f32) :
    ∀ i ∈ slotSet (succ16 k), ((slotM (succ16 k)).view.write (Elt F) fd ((slotM 0).view.read (Elt F) (gath X c)) Finset.univ) i
      = gath X (tgt c k) i := by
  intro i hi
  obtain ⟨x, -, rfl⟩ := Finset.mem_map.mp hi
  rw [View.write_emb_of_mem _ _ (Finset.mem_univ x)]
  show gath X c ((slotM 0).view.emb x) = _
  rw [gath_apply X c _ 0 (slot_emb_zero 0 x), gath_apply X (tgt c k) _ (succ16 k) (slot_emb_zero _ x), from16_zero, from16_tgt]
  refine congrArg (k0_pay3 (X c)) (Shape.idx3_ext rfl ?_ ?_)
  · exact (slot_emb_val 0 x 0).trans (slot_emb_val _ x 0).symm
  · exact (slot_emb_val 0 x 1).trans (slot_emb_val _ x 1).symm

end Cert.KernelIdeal.Body

end
-- ==== Proof.Protocol.lean ====
/-
  The exchange's protocol.

  Each device `c` has a barrier cell, and for every offset `k` a send cell and a receive cell.
  * Barrier cell of `c`: fifteen duties of one unit. Duty `j` is paid by the device `tgt c j`; it hands over that device's
    slot `j + 1` and the fact that its receive cell `j` is open, so `c` may copy into it.
  * Send cell `k` of `c`: one duty, paid when the copy of offset `k` has read slot 0; it hands back the lent share of slot 0.
  * Receive cell `k` of `c`: one duty, paid by the device `src c k` when its copy has landed; it hands over slot `k + 1` of `c` at
    the sender's sums.
  The barrier wait is made while the copies' credits are still owed, so barrier cells lie below receive cells.
-/
module

public import proofs.«01_k».proof.Proof.Slots
public import proofs.«01_k».proof.Proof.Gen.KernelIdeal.Launch
public import proofs.«01_k».proof.Proof.Gen.KernelIdeal.Frame
public import Idealize.ShloMosaic.Lib.Rounds
public import Idealize.ShloMosaic.Lib.Transfers
public import Idealize.ShloMosaic.Lib.Pipeline.Regions
public import Idealize.ShloMosaic.Lib.Pipeline.Kit
public import Idealize.ShloMosaic.Lib.Pipeline.BigSepL
public import Idealize.ShloMosaic.Lib.Pipeline.RegionTalk

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The pipeline's ghost state beside the exchange's. -/
abbrev UU : Type := UR sig nD τ × URounds (GSem nD τ sig) (Fin 15)

local notation "𝕄" => MT nD τ sig Unit (Elt F) ℕ UU ℕ

abbrev EP : Emb (UR sig nD τ) (MT nD τ sig Unit (Elt F) ℕ UU ℕ) := embL
abbrev ER : Emb (URounds (GSem nD τ sig) (Fin 15)) (MT nD τ sig Unit (Elt F) ℕ UU ℕ) := embR

/-! ## Cells -/

abbrev barCell (c : Dev nD) : GSem nD τ sig := ((c : Thread nD τ), .reg barSem)
abbrev sendCell (c : Dev nD) (k : Fin 15) : GSem nD τ sig := ((c : Thread nD τ), .dma (sendSem k))
abbrev recvCell (c : Dev nD) (k : Fin 15) : GSem nD τ sig := ((c : Thread nD τ), .dma (recvSem k))

/-- What a semaphore is for. -/
inductive Role where
  | bar | send (k : Fin 15) | recv (k : Fin 15) | other
  deriving DecidableEq

def role : SemLoc sig → Role
  | .reg _ => .bar
  | .dma s =>
    if h : 4 ≤ s.val ∧ s.val < 19 then .send ⟨s.val - 4, by omega⟩
    else if h : 19 ≤ s.val ∧ s.val < 34 then .recv ⟨s.val - 19, by omega⟩ else .other

theorem role_bar : role (.reg barSem) = .bar := rfl
theorem role_send : ∀ k : Fin 15, role (.dma (sendSem k)) = .send k := by decide +kernel
theorem role_recv : ∀ k : Fin 15, role (.dma (recvSem k)) = .recv k := by decide +kernel

theorem recv_ne_bar (k : Fin 15) : (SemLoc.dma (recvSem k) : SemLoc sig) ≠ .reg barSem := fun h => by cases h
theorem recvSem_inj : Function.Injective recvSem := by decide +kernel
theorem tgt_inj : ∀ k : Fin 15, Function.Injective fun c => tgt c k := by decide +kernel

/-- The units of one copy's credit. -/
abbrev N : ℕ := (slotM 0).view.dmaCredit
theorem N_pos : 0 < N := View.dmaCredit_pos _ (by decide +kernel)

/-! ## What is handed over -/

/-- Slot `j` of device `c` at contents `f`, at share `q`. -/
abbrev slotPts (c : Dev nD) (j : Fin 16) (q : PosShare TreeShare) (f : Buf (Elt F) ((slotM j).view.loc (c : Thread nD τ))) : sProp 𝕄 :=
  (slotM j).view.loc (c : Thread nD τ) ↦[(slotM j).view.set]{q} f

/-- The share of slot 0 the copy of offset `k` reads through. -/
abbrev piece (k : Fin 15) : PosShare TreeShare := Transfers.shareTok fullShare 15 k

def barPay (c : Dev nD) (j : Fin 15) : sProp 𝕄 :=
  iprop((∃ f, slotPts (tgt c j) (succ16 j) fullShare f) ∗ reached ER (recvCell (tgt c j) j) 0)
def sendPay (X : Dev nD → Vec F S768x512 .bf16) (c : Dev nD) (k : Fin 15) : sProp 𝕄 := slotPts c 0 (piece k) (gath X c)
def recvPay (X : Dev nD → Vec F S768x512 .bf16) (c : Dev nD) (k : Fin 15) : sProp 𝕄 := slotPts c (succ16 k) fullShare (gath X c)

/-- The duties of a semaphore of a given role. -/
def dutiesOf : Role → Finset (Fin 15)
  | .bar => Finset.univ
  | .send _ => {0}
  | .recv _ => {0}
  | .other => ∅

def amountOf : Role → ℕ
  | .bar => 1
  | _ => N

def payOf (X : Dev nD → Vec F S768x512 .bf16) (c : Dev nD) (j : Fin 15) : Role → sProp 𝕄
  | .bar => barPay c j
  | .send k => sendPay X c k
  | .recv k => recvPay X c k
  | .other => iprop(emp)

/-- The schedule: all duties in round 0. -/
def Rd (X : Dev nD → Vec F S768x512 .bf16) : Rounds.Schedule (GSem nD τ sig) (Fin 15) 𝕄 where
  duties g r := if r = 0 ∧ g.1.2 = .tc then dutiesOf (role g.2) else ∅
  unitless _ := False
  amount g _ _ := amountOf (role g.2)
  payload g _ j := payOf X g.1.1 j (role g.2)
  amount_pos g _ _ _ := by
    cases role g.2 <;> first | exact Nat.one_pos | exact N_pos

variable (X : Dev nD → Vec F S768x512 .bf16)

instance payload_storable (g : GSem nD τ sig) (r : ℕ) (d : Fin 15) :
    BI.Storable (upEmb : UEmb _ 𝕄) ((Rd X).payload g r d) := by
  show BI.Storable upEmb (payOf X g.1.1 d (role g.2))
  cases role g.2 <;> dsimp only [payOf] <;> first | (unfold barPay; infer_instance) | (unfold sendPay; infer_instance) | (unfold recvPay; infer_instance) | infer_instance

variable (c : Dev nD) (k : Fin 15)

theorem duties_eq (sm : SemLoc sig) : (Rd X).duties ((c : Thread nD τ), sm) 0 = dutiesOf (role sm) := by
  simp only [Rd]; exact if_pos ⟨trivial, trivial⟩
theorem duties_bar : (Rd X).duties (barCell c) 0 = Finset.univ := duties_eq X c _
theorem duties_send : (Rd X).duties (sendCell c k) 0 = {0} := by rw [duties_eq, role_send]; rfl
theorem duties_recv : (Rd X).duties (recvCell c k) 0 = {0} := by rw [duties_eq, role_recv]; rfl
theorem duties_later (g : GSem nD τ sig) : ∀ r, 0 + 1 ≤ r → (Rd X).duties g r = ∅ :=
  fun r hr => if_neg fun h => by omega

theorem amount_bar (j : Fin 15) : (Rd X).amount (barCell c) 0 j = 1 := rfl
theorem amount_send (j : Fin 15) : (Rd X).amount (sendCell c k) 0 j = N := by
  show amountOf (role (.dma (sendSem k))) = N
  rw [role_send]; rfl
theorem amount_recv (j : Fin 15) : (Rd X).amount (recvCell c k) 0 j = N := by
  show amountOf (role (.dma (recvSem k))) = N
  rw [role_recv]; rfl

theorem expect_bar : (Rd X).expect (barCell c) 0 = 15 := by
  unfold Schedule.expect Schedule.amountOf
  rw [duties_bar, Finset.sum_congr rfl fun j _ => amount_bar X c j, Finset.sum_const, Finset.card_univ, Fintype.card_fin]; rfl
theorem expect_send : (Rd X).expect (sendCell c k) 0 = N := by
  unfold Schedule.expect Schedule.amountOf; rw [duties_send, Finset.sum_singleton, amount_send]
theorem expect_recv : (Rd X).expect (recvCell c k) 0 = N := by
  unfold Schedule.expect Schedule.amountOf; rw [duties_recv, Finset.sum_singleton, amount_recv]

theorem payload_bar (j : Fin 15) : (Rd X).payload (barCell c) 0 j = barPay c j := rfl
theorem payload_send (j : Fin 15) : (Rd X).payload (sendCell c k) 0 j = sendPay X c k := by
  show payOf X c j (role (.dma (sendSem k))) = _
  rw [role_send]; rfl
theorem payload_recv (j : Fin 15) : (Rd X).payload (recvCell c k) 0 j = recvPay X c k := by
  show payOf X c j (role (.dma (recvSem k))) = _
  rw [role_recv]; rfl

theorem rest_bar : bigSep ((Rd X).duties (barCell c) 0 \ ∅) (fun u => (Rd X).payload (barCell c) 0 u) = bigSep Finset.univ (barPay (F := F) c) := by
  rw [Finset.sdiff_empty, duties_bar]; rfl
theorem rest_send : bigSep ((Rd X).duties (sendCell c k) 0 \ ∅) (fun u => (Rd X).payload (sendCell c k) 0 u) = sendPay X c k := by
  rw [Finset.sdiff_empty, duties_send, bigSep_singleton, payload_send]
theorem rest_recv : bigSep ((Rd X).duties (recvCell c k) 0 \ ∅) (fun u => (Rd X).payload (recvCell c k) 0 u) = recvPay X c k := by
  rw [Finset.sdiff_empty, duties_recv, bigSep_singleton, payload_recv]

/-! ## What a device owes; the levels -/

/-- The credits of the copies still to start. -/
def owedC (c : Dev nD) : List (Fin 15) → CellTallies nD τ sig Unit
  | [] => 0
  | k :: l => owedC c l + tallyAt (recvCell (tgt c k) k) () N
/-- With them the units of the signals still to send. -/
def owedS (c : Dev nD) (base : CellTallies nD τ sig Unit) : List (Fin 15) → CellTallies nD τ sig Unit
  | [] => base
  | k :: l => owedS c base l + tallyAt (barCell (tgt c k)) () 1

/-- Every offset. -/
abbrev ks : List (Fin 15) := List.finRange 15
/-- What device `c` owes at launch. -/
def O₀ (c : Dev nD) : CellTallies nD τ sig Unit := owedS c (owedC c ks) ks

def L (g : GSem nD τ sig) : Finset Unit := if g.1.2 = .tc then {()} else ∅
def lvR : Role → ℕ
  | .bar => 1
  | .recv _ => 2
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem owedC_pos (l : List (Fin 15)) {g : GSem nD τ sig} {u : Unit} (h : 0 < owedC c l g u) : ∃ k, g = recvCell (tgt c k) k := by
  induction l with
  | nil => exact absurd h (Nat.lt_irrefl 0)
  | cons k l ih =>
    unfold owedC at h
    rw [Pi.add_apply, Finsupp.add_apply] at h
    rcases Nat.add_pos_iff_pos_or_pos.mp h with h | h
    · exact ih h
    · rw [tallyAt_apply] at h
      split at h
      · next hg => exact ⟨k, hg.1⟩
      · exact absurd h (Nat.lt_irrefl 0)

theorem owedS_pos (base : CellTallies nD τ sig Unit) (l : List (Fin 15)) {g : GSem nD τ sig} {u : Unit} (h : 0 < owedS c base l g u) :
    0 < base g u ∨ ∃ k, g = barCell (tgt c k) := by
  induction l with
  | nil => exact .inl h
  | cons k l ih =>
    unfold owedS at h
    rw [Pi.add_apply, Finsupp.add_apply] at h
    rcases Nat.add_pos_iff_pos_or_pos.mp h with h | h
    · exact ih h
    · rw [tallyAt_apply] at h
      split at h
      · next hg => exact .inr ⟨k, hg.1⟩
      · exact absurd h (Nat.lt_irrefl 0)

theorem O₀_pos {g : GSem nD τ sig} {u : Unit} (h : 0 < O₀ c g u) : (∃ k, g = recvCell (tgt c k) k) ∨ ∃ k, g = barCell (tgt c k) :=
  (owedS_pos c _ _ h).imp_left (owedC_pos c _)

theorem lv_recv : lv (recvCell c k) () = 2 := by unfold lv; rw [role_recv]; rfl
theorem lv_bar : lv (barCell c) () = 1 := rfl

/-- The barrier wait is below everything still owed then. -/
theorem mayWait_bar : (levAts L lv : sProp 𝕄) ⊢ MayWait (c : Thread nD τ) (.reg barSem) () (owedC c ks) :=
  MayOwe.of_cut (L := L) (lev := lv) 1 (fun p hp => by rw [Finset.mem_singleton.mp hp, L_tc]; exact Finset.mem_singleton_self _)
    (fun g u hg => by obtain ⟨k, rfl⟩ := owedC_pos c _ hg; rw [L_tc]; exact Finset.mem_singleton_self _)
    (fun p hp => by rw [Finset.mem_singleton.mp hp]; exact le_refl _)
    (fun g u hg => by obtain ⟨k, rfl⟩ := owedC_pos c _ hg; rw [lv_recv]; exact Nat.one_lt_two)

end Cert.KernelIdeal.Body

end
-- ==== Proof.Loops.lean ====
/-
  The three loops of the body, each by induction over the list of offsets it runs through.
  The records (all cells' invariants; round 0 of every barrier cell reached) are persistent; the loops consume per offset what that
  iteration needs and return per offset what it yields.
-/
module

public import proofs.«01_k».proof.Proof.Protocol

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The region's own semaphores: the send side, then the receive side. -/
def osem : Fin 2 × Fin 15 → SemLoc sig := fun p => if p.1 = 0 then .dma (sendSem p.2) else .dma (recvSem p.2)
theorem osem_inj : Function.Injective osem := by decide +kernel
theorem osem_ne_bar (p : Fin 2 × Fin 15) : osem p ≠ .reg barSem := by
  unfold osem; split <;> exact fun h => by cases h

/-! ## The records -/

def barEmb : Dev nD ↪ GSem nD τ sig := ⟨fun c => barCell c, fun _ _ h => congrArg (fun g : GSem nD τ sig => g.1.1) h⟩
def ownEmb : Dev nD × (Fin 2 × Fin 15) ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

variable (X : Dev nD → Vec F S768x512 .bf16)

def records (κ : GSem nD τ sig → ℕ) : sProp 𝕄 :=
  iprop((bigSep (barCells ∪ ownCells) fun g => cellInv ER (Rd X) (κ g) g) ∗ bigSep barCells fun g => reached ER g 0)

instance records_persistent (κ : GSem nD τ sig → ℕ) : BI.Persistent (records X κ) := by unfold records; infer_instance

variable (κ : GSem nD τ sig → ℕ) (c : Dev nD) (k : Fin 15)

theorem rec_of {g : GSem nD τ sig} (h : g ∈ (barCells ∪ ownCells : Finset (GSem nD τ sig))) :
    records X κ ⊢ cellInv ER (Rd X) (κ g) g := by
  have e : (bigSep (barCells ∪ ownCells) fun g => (cellInv ER (Rd X) (κ g) g : sProp 𝕄)) ⊢ cellInv ER (Rd X) (κ g) g := bigSep_elim h
  unfold records
  iintro ⟨H, -⟩
  iapply e $$ H
theorem rec_bar : records X κ ⊢ cellInv ER (Rd X) (κ (barCell c)) (barCell c) :=
  rec_of X κ (Finset.mem_union_left _ (Finset.mem_map_of_mem barEmb (Finset.mem_univ c)))
theorem rec_send : records X κ ⊢ cellInv ER (Rd X) (κ (sendCell c k)) (sendCell c k) :=
  rec_of X κ (Finset.mem_union_right _ (Finset.mem_map_of_mem ownEmb (Finset.mem_univ (c, ((0 : Fin 2), k)))))
theorem rec_recv : records X κ ⊢ cellInv ER (Rd X) (κ (recvCell c k)) (recvCell c k) :=
  rec_of X κ (Finset.mem_union_right _ (Finset.mem_map_of_mem ownEmb (Finset.mem_univ (c, ((1 : Fin 2), k)))))
theorem rec_reached : records X κ ⊢ reached ER (barCell c) 0 := by
  have e : (bigSep barCells fun g => (reached ER g 0 : sProp 𝕄)) ⊢ reached ER (barCell c) 0 :=
    bigSep_elim (Finset.mem_map_of_mem barEmb (Finset.mem_univ c))
  unfold records
  iintro ⟨-, H⟩
  iapply e $$ H

abbrev 𝒱₀ : Variants := Variants.none

/-! ## The signals -/

/-- What signalling the device at offset `k` takes. -/
def sigIn (k : Fin 15) : sProp 𝕄 := iprop(dutyTok ER (barCell (tgt c k)) 0 (dual k) ∗ barPay (tgt c k) (dual k))

theorem signals (W : Waits sig Unit) (base : CellTallies nD τ sig Unit) (K : PP F) (Q : PUnit → sProp 𝕄) (l : List (Fin 15)) :
    iprop(records X κ ∗ bigSepL l (sigIn (F := F) c) ∗ owes (c : Thread nD τ) (owedS c base l) W
        ∗ (owes (c : Thread nD τ) base W -∗ wp frame (wpE (defs₀ (F := F)) 𝒱₀ c none) Set.univ K Q))
      ⊢ wp frame (wpE (defs₀ (F := F)) 𝒱₀ c none) Set.univ (signalAll (l.map fun k => (tgt c k, k)) K) Q := by
  induction l with
  | nil =>
    rw [show owedS c base [] = base from rfl]
    show _ ⊢ wp frame _ _ K Q
    iintro ⟨-, -, HO, Hk⟩
    iapply Hk $$ HO
  | cons k l ih =>
    rw [bigSepL_cons']
    show _ ⊢ wp frame _ _ (.op (.semSignal (Dev.tc (tgt c k)) barSem ((1 : ℕ) : ℤ)) fun _ => signalAll (l.map fun k => (tgt c k, k)) K) Q
    unfold sigIn
    iintro ⟨#HR, ⟨⟨Ht, Hp⟩, Hl⟩, HO, Hk⟩
    iapply (Rounds.wp_signal 𝒱₀ ER (Rd X) (c : Thread nD τ) none (dst := (tgt c k : Thread nD τ)) (sem := barSem) (r := 0) (d := dual k)
        (κ := κ (barCell (tgt c k)))
        (by rw [duties_bar]; exact Finset.mem_univ _) (amount_bar X (tgt c k) _) () (owedS c base l) rfl) $$ [HO Ht Hp]
    · isplitr; · iapply (rec_bar X κ (tgt c k)) $$ HR
      isplitl [HO]; · iexact HO
      isplitl [Ht]; · iexact Ht
      isplitl [Hp]; · rw [payload_bar]; iexact Hp
      iapply (rec_reached X κ (tgt c k)) $$ HR
    iintro HO
    iapply ih
    isplitr; · iexact HR
    isplitl [Hl]; · unfold sigIn; iexact Hl
    isplitl [HO]; · iexact HO
    iexact Hk

/-! ## The copies -/

/-- What starting the copy of offset `k` takes. -/
def copyIn (k : Fin 15) : sProp 𝕄 :=
  iprop(sendPay X c k ∗ barPay c k ∗ dutyTok ER (sendCell c k) 0 0 ∗ dutyTok ER (recvCell (tgt c k) k) 0 0 ∗ reached ER (sendCell c k) 0)

theorem copies (W : Waits sig Unit) (K : PP F) (Q : PUnit → sProp 𝕄) (l : List (Fin 15)) :
    iprop(records X κ ∗ bigSepL l (copyIn X c) ∗ owes (c : Thread nD τ) (owedC c l) W
        ∗ ((bigSepL l (fun k => cred (tallyAt (sendCell c k) () N)) ∗ owes (c : Thread nD τ) 0 W)
            -∗ wp frame (wpE (defs₀ (F := F)) 𝒱₀ c none) Set.univ K Q))
      ⊢ wp frame (wpE (defs₀ (F := F)) 𝒱₀ c none) Set.univ (sendAll (l.map fun k => (tgt c k, k)) K) Q := by
  induction l with
  | nil =>
    rw [show owedC c [] = 0 from rfl, bigSepL_nil, bigSepL_nil]
    show _ ⊢ wp frame _ _ K Q
    iintro ⟨-, Hl, HO, Hk⟩
    iapply Hk
    isplitl [Hl]; · iexact Hl
    iexact HO
  | cons k l ih =>
    rw [bigSepL_cons', bigSepL_cons']
    show _ ⊢ wp frame _ _ (.op (.enqueueDma (slotM 0) (.remote (Dev.tc (tgt c k)) (slotM (succ16 k)) (.dma (sendSem k))) (.dma (recvSem k))
      _ _ _) fun _ => sendAll (l.map fun k => (tgt c k, k)) K) Q
    iintro ⟨#HR, ⟨Hc, Hl⟩, HO, Hk⟩
    unfold copyIn barPay
    icases Hc with ⟨Hs, ⟨⟨%fn, Hd⟩, HrV⟩, HtS, HtV, HrS⟩
    iapply (Rounds.wp_send_pointsTo 𝒱₀ ER (Rd X) (c : Thread nD τ) none (c' := (tgt c k : Thread nD τ)) (src := slotM 0) (dst := slotM (succ16 k))
        (sS := .dma (sendSem k)) (sem := .dma (recvSem k)) (q := piece k) (fs := gath X c) (κ₁ := κ (sendCell c k))
        (κ₂ := κ (recvCell (tgt c k) k)) (r₁ := 0) (r₂ := 0) (d₁ := 0) (d₂ := 0) (fd := fn)
        (by rw [duties_send]; exact Finset.mem_singleton_self _) (by rw [duties_recv]; exact Finset.mem_singleton_self _)
        () () N rfl (amount_send X c k 0) (amount_recv X (tgt c k) k 0) (owedC c l) rfl (W := W)
        (by rw [payload_send]; exact BI.Entails.refl _)
        (by rw [payload_recv]; unfold recvPay slotPts; exact Entails.of_eq (pointsTo_congr (landed X c k fn)))) $$ [Hs Hd HO HtS HtV HrS HrV]
    · isplitr; · iapply (rec_send X κ c k) $$ HR
      isplitr; · iapply (rec_recv X κ (tgt c k) k) $$ HR
      isplitl [Hs]; · unfold sendPay; iexact Hs
      isplitl [Hd]; · iexact Hd
      isplitl [HO]; · iexact HO
      isplitl [HtS]; · iexact HtS
      isplitl [HrS]; · iexact HrS
      isplitl [HtV]; · iexact HtV
      iexact HrV
    iintro ⟨HcS, HO⟩
    iapply ih
    isplitr; · iexact HR
    isplitl [Hl]; · unfold copyIn barPay; iexact Hl
    isplitl [HO]; · iexact HO
    iintro ⟨Hcs, HO⟩
    iapply Hk
    isplitl [HcS Hcs]
    · isplitl [HcS] <;> iassumption
    iexact HO

/-! ## The waits -/

/-- What the two waits of offset `k` take, -/
def waitIn (k : Fin 15) : sProp 𝕄 :=
  iprop(cred (tallyAt (sendCell c k) () N) ∗ cred (tallyAt (recvCell c k) () N) ∗ atPos ER (sendCell c k) 0 ∅ 0 ∗ atPos ER (recvCell c k) 0 ∅ 0)
/-- and what they yield. -/
def waitOut (k : Fin 15) : sProp 𝕄 :=
  iprop(sendPay X c k ∗ recvPay X c k ∗ atPos ER (sendCell c k) (0 + 1) ∅ 0 ∗ atPos ER (recvCell c k) (0 + 1) ∅ 0)

theorem waitAll_cons (k : Fin 15) (l : List (Fin 15)) (K : PP F) : waitAll (k :: l) K =
    .op (.waitDma2 (sendSem k) (slotM (succ16 k)) (slotM 0) ((View.wordExact_bits rfl).reshape _ _) ((View.wordExact_bits rfl).reshape _ _))
      fun _ =>
    .op (.waitDma2 (recvSem k) (slotM 0) (slotM (succ16 k)) ((View.wordExact_bits rfl).reshape _ _) ((View.wordExact_bits rfl).reshape _ _))
      fun _ => waitAll l K := rfl

theorem waits (K : PP F) (Q : PUnit → sProp 𝕄) (l : List (Fin 15)) : ∀ W : Waits sig Unit,
    iprop(records X κ ∗ bigSepL l (waitIn (F := F) c) ∗ owes (c : Thread nD τ) (0 : CellTallies nD τ sig Unit) W
        ∗ ((bigSepL l (waitOut X c) ∗ ∃ W', owes (c : Thread nD τ) (0 : CellTallies nD τ sig Unit) W')
            -∗ wp frame (wpE (defs₀ (F := F)) 𝒱₀ c none) Set.univ K Q))
      ⊢ wp frame (wpE (defs₀ (F := F)) 𝒱₀ c none) Set.univ (waitAll l K) Q := by
  induction l with
  | nil =>
    intro W
    rw [bigSepL_nil, bigSepL_nil]
    show _ ⊢ wp frame _ _ K Q
    iintro ⟨-, Hl, HO, Hk⟩
    iapply Hk
    isplitl [Hl]; · iexact Hl
    iexists W; iexact HO
  | cons k l ih =>
    intro W
    rw [bigSepL_cons', bigSepL_cons']
    rw [waitAll_cons]
    iintro ⟨#HR, ⟨Hc, Hl⟩, HO, Hk⟩
    unfold waitIn
    icases Hc with ⟨HcS, HcV, HatS, HatV⟩
    iapply (Rounds.wp_wait_rest_token 𝒱₀ ER (Rd X) (c : Thread nD τ) none (κ := κ (sendCell c k))
        (wpE_waitDma2_eq (src := slotM (succ16 k)) (dst := slotM 0) 𝒱₀ (c : Thread nD τ) none Set.univ) (Set.mem_univ _) () (O := 0) (W := W) (R := 0) (m := 0) (T := ∅)
        ((Nat.zero_add _).trans (expect_send X c k).symm)) $$ [HcS HO HatS]
    · isplitr; · iapply (rec_send X κ c k) $$ HR
      isplitl [HcS]; · iexact HcS
      isplitl [HO]; · iexact HO
      isplitr; · rw [MayWait_zero]; iempintro
      iexact HatS
    iintro ⟨HO, HatS, -, Hpay⟩
    ihave Hs := (Entails.of_eq (rest_send X c k)) $$ Hpay
    iapply (Rounds.wp_wait_rest_token 𝒱₀ ER (Rd X) (c : Thread nD τ) none (κ := κ (recvCell c k))
        (wpE_waitDma2_eq (src := slotM 0) (dst := slotM (succ16 k)) 𝒱₀ (c : Thread nD τ) none Set.univ) (Set.mem_univ _) () (O := 0) (R := 0) (m := 0) (T := ∅)
        ((Nat.zero_add _).trans (expect_recv X c k).symm)) $$ [HcV HO HatV]
    · isplitr; · iapply (rec_recv X κ c k) $$ HR
      isplitl [HcV]; · iexact HcV
      isplitl [HO]; · iexact HO
      isplitr; · rw [MayWait_zero]; iempintro
      iexact HatV
    iintro ⟨HO, HatV, -, Hpay⟩
    ihave Hv := (Entails.of_eq (rest_recv X c k)) $$ Hpay
    iapply (ih _)
    isplitr; · iexact HR
    isplitl [Hl]; · unfold waitIn; iexact Hl
    isplitl [HO]; · iexact HO
    iintro ⟨Hr, HO⟩
    iapply Hk
    isplitr [HO]
    · isplitr [Hr]
      · unfold waitOut
        isplitl [Hs]; · iexact Hs
        isplitl [Hv]; · iexact Hv
        isplitl [HatS] <;> iassumption
      · iexact Hr
    iexact HO

/-! ## Opening and closing the cells -/

theorem close (g : GSem nD τ sig) :
    iprop(cellInv ER (Rd X) (κ g) g ∗ atPos ER g (0 + 1) ∅ 0) ⊢ (|={Set.univ}=> semVal g 0 : sProp 𝕄) :=
  Rounds.cell_close ER (Rd X) (Set.mem_univ (κ g)) id (duties_later X g)

/-- Every send and receive cell closed. -/
theorem closeAll (l : List (Fin 15)) :
    iprop(records X κ ∗ bigSepL l (fun k => iprop(atPos ER (sendCell c k) (0 + 1) ∅ 0 ∗ atPos ER (recvCell c k) (0 + 1) ∅ 0)))
      ⊢ (|={Set.univ}=> bigSepL l (fun k => iprop(semVal (sendCell c k) 0 ∗ semVal (recvCell c k) 0)) : sProp 𝕄) := by
  induction l with
  | nil => rw [bigSepL_nil, bigSepL_nil]; iintro ⟨-, H⟩; imodintro; iexact H
  | cons k l ih =>
    rw [bigSepL_cons', bigSepL_cons']
    iintro ⟨#HR, ⟨HS, HV⟩, Hl⟩
    imod (close X κ (sendCell c k)) $$ [HS] with HS
    · isplitr; · iapply (rec_send X κ c k) $$ HR
      iexact HS
    imod (close X κ (recvCell c k)) $$ [HV] with HV
    · isplitr; · iapply (rec_recv X κ c k) $$ HR
      iexact HV
    imod ih $$ [Hl] with Hl
    · isplitr; · iexact HR
      iexact Hl
    imodintro
    isplitl [HS HV]; · isplitl [HS] <;> iassumption
    iexact Hl

/-- Every send and receive cell opened: it was dormant. -/
theorem openAll (l : List (Fin 15)) :
    iprop(records X κ ∗ bigSepL l (fun k => iprop((openTok ER (sendCell c k) ∗ semVal (sendCell c k) 0)
        ∗ (openTok ER (recvCell c k) ∗ semVal (recvCell c k) 0))))
      ⊢ (|={Set.univ}=> bigSepL l (fun k => iprop((atPos ER (sendCell c k) 0 ∅ 0 ∗ reached ER (sendCell c k) 0)
        ∗ (atPos ER (recvCell c k) 0 ∅ 0 ∗ reached ER (recvCell c k) 0))) : sProp 𝕄) := by
  induction l with
  | nil => rw [bigSepL_nil, bigSepL_nil]; iintro ⟨-, H⟩; imodintro; iexact H
  | cons k l ih =>
    rw [bigSepL_cons', bigSepL_cons']
    iintro ⟨#HR, ⟨⟨HoS, HvS⟩, HoV, HvV⟩, Hl⟩
    imod (Rounds.cell_open ER (Rd X) (g := sendCell c k) (Set.mem_univ (κ (sendCell c k)))) $$ [HoS HvS] with HS
    · isplitr; · iapply (rec_send X κ c k) $$ HR
      isplitl [HoS] <;> iassumption
    imod (Rounds.cell_open ER (Rd X) (g := recvCell c k) (Set.mem_univ (κ (recvCell c k)))) $$ [HoV HvV] with HV
    · isplitr; · iapply (rec_recv X κ c k) $$ HR
      isplitl [HoV] <;> iassumption
    imod ih $$ [Hl] with Hl
    · isplitr; · iexact HR
      iexact Hl
    imodintro
    isplitl [HS HV]; · isplitl [HS] <;> iassumption
    iexact Hl

end Cert.KernelIdeal.Body

end
-- ==== Proof.Run.lean ====
/-
  One device's run of the body, at a symbolic device `c`: from its block, the two parameter rows, the scratch at anything and its share
  of the protocol's ghost state, to the result block, with every counter back at zero.
-/
module

public import proofs.«01_k».proof.Proof.Loops

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Families over the offsets -/

/-- A family over all offsets as the loops' list. -/
theorem toL (Φ : Fin 15 → sProp 𝕄) : bigSepL ks Φ = bigSep Finset.univ Φ :=
  (bigSep_univ_eq_bigSepL ks (by decide) (by decide) Φ).symm

theorem zip (Φ Ψ : Fin 15 → sProp 𝕄) :
    iprop(bigSep Finset.univ Φ ∗ bigSep Finset.univ Ψ) = bigSep Finset.univ fun k => iprop(Φ k ∗ Ψ k) :=
  (bigSep_sep _ _ _).symm

def dualEquiv : Fin 15 ≃ Fin 15 := ⟨dual, dual, dual_dual, dual_dual⟩

theorem flip (Φ : Fin 15 → sProp 𝕄) : bigSep Finset.univ Φ = bigSep Finset.univ fun k => Φ (dual k) :=
  bigSep_univ_equiv dualEquiv Φ

/-! ## The scratch as slots -/

/-- The scratch of a device, whole. -/
abbrev scrPts (c : Dev nD) (f : Buf (Elt F) ((c : Thread nD τ).loc cc0_scratch0)) : sProp 𝕄 :=
  ((c : Thread nD τ).loc cc0_scratch0) ↦{fullShare} f

theorem scr_slots (c : Dev nD) (f : Buf (Elt F) ((c : Thread nD τ).loc cc0_scratch0)) :
    (scrPts c f : sProp 𝕄) = iprop(slotPts c 0 fullShare f ∗ bigSep Finset.univ fun k => slotPts c (succ16 k) fullShare f) := by
  have h1 : (scrPts c f : sProp 𝕄) = bigSep Finset.univ fun j => slotPts c j fullShare f :=
    (congrArg (fun S => (((c : Thread nD τ).loc cc0_scratch0) ↦[S]{fullShare} f : sProp 𝕄)) slot_cover.symm).trans
      (pointsTo_biUnion (ℓ := (c : Thread nD τ).loc cc0_scratch0) (q := fullShare) (f := f) Finset.univ (fun j => slotSet j)
        fun j _ j' _ h => slot_disjoint j j' h)
  refine h1.trans ?_
  refine (bigSep_univ_eq_bigSepL (0 :: ks.map succ16) (by decide +kernel) (by decide +kernel) fun j => slotPts c j fullShare f).trans ?_
  refine (bigSepL_cons' _ _ _).trans (congrArg (fun P => iprop(slotPts c 0 fullShare f ∗ P)) ?_)
  exact (bigSepL_map succ16 ks fun j => slotPts c j fullShare f).trans (toL fun k => slotPts c (succ16 k) fullShare f)

/-- Slot 0 as the copies' shares and a remainder. -/
theorem slot0_shares (X : Dev nD → Vec F S768x512 .bf16) (c : Dev nD) :
    (slotPts c 0 fullShare (gath X c) : sProp 𝕄)
      ⊣⊢ iprop(slotPts c 0 (Transfers.shareDrop fullShare 15) (gath X c) ∗ bigSep Finset.univ (sendPay X c)) :=
  Transfers.pointsTo_toks fullShare 15

/-! ## What a device holds -/

variable (X : Dev nD → Vec F S768x512 .bf16) (κ : GSem nD τ sig → ℕ) (c : Dev nD)

/-- The result: computed from the own block, everybody's sums and the two parameter rows. -/
def out (g b : Vec F S1x512 .bf16) : Vec F S768x512 .bf16 := k0_pay1 (k0_pay4 (k0_pay2 (X c)) (gath X c) g) b

/-- The ghost state at the body's start: positions on the own cells, all open; the tokens of the duties `c` pays. -/
def opened : sProp 𝕄 :=
  iprop(atPos ER (barCell c) 0 ∅ 0
    ∗ (bigSep Finset.univ fun k => iprop((atPos ER (sendCell c k) 0 ∅ 0 ∗ reached ER (sendCell c k) 0)
        ∗ (atPos ER (recvCell c k) 0 ∅ 0 ∗ reached ER (recvCell c k) 0)))
    ∗ (bigSep Finset.univ fun k => dutyTok ER (barCell (tgt c k)) 0 (dual k))
    ∗ (bigSep Finset.univ fun k => dutyTok ER (sendCell c k) 0 0)
    ∗ (bigSep Finset.univ fun k => dutyTok ER (recvCell (tgt c k) k) 0 0))

/-- The credit it waits with. -/
def credits : sProp 𝕄 :=
  iprop(cred (tallyAt (barCell c) () 15) ∗ bigSep Finset.univ fun k => cred (tallyAt (recvCell c k) () N))

abbrev buf (b : Ref sig .tc) (f : Buf (Elt F) ((c : Thread nD τ).loc b)) : sProp 𝕄 := ((c : Thread nD τ).loc b) ↦{fullShare} f

def bodyPre (W : Waits sig Unit) (g b : Vec F S1x512 .bf16) : sProp 𝕄 :=
  iprop(records X κ ∗ opened c ∗ credits c ∗ levAts L lv ∗ (∃ f, scrPts c f)
    ∗ buf c cc0_stg0_0 (X c) ∗ buf c cc0_stg1_0 g ∗ buf c cc0_stg2_0 b ∗ (∃ f, buf c cc0_stg3_0 f)
    ∗ owes (c : Thread nD τ) (O₀ c) W)

/-- The counters back at zero. -/
def zeros : sProp 𝕄 := bigSep Finset.univ fun k => iprop(semVal (sendCell c k) 0 ∗ semVal (recvCell c k) 0)

def bodyPost (g b : Vec F S1x512 .bf16) : sProp 𝕄 :=
  iprop(semVal (barCell c) 0 ∗ zeros c ∗ (∃ f, scrPts c f)
    ∗ buf c cc0_stg0_0 (X c) ∗ buf c cc0_stg1_0 g ∗ buf c cc0_stg2_0 b ∗ buf c cc0_stg3_0 (out X c g b)
    ∗ ∃ W, owes (c : Thread nD τ) (0 : CellTallies nD τ sig Unit) W)

/-- The signals' inputs: the own slots and the own receive cells, handed round. -/
theorem sigIns (f : Buf (Elt F) ((c : Thread nD τ).loc cc0_scratch0)) :
    iprop((bigSep Finset.univ fun k => dutyTok ER (barCell (tgt c k)) 0 (dual k))
        ∗ (bigSep Finset.univ fun k => slotPts c (succ16 k) fullShare f)
        ∗ (bigSep Finset.univ fun k => reached ER (recvCell c k) 0)) ⊢ bigSepL ks (sigIn (F := F) c) := by
  have h (k : Fin 15) : iprop(dutyTok ER (barCell (tgt c k)) 0 (dual k) ∗ slotPts c (succ16 (dual k)) fullShare f
      ∗ reached ER (recvCell c (dual k)) 0) ⊢ (sigIn (F := F) c k : sProp 𝕄) := by
    unfold sigIn barPay
    rw [tgt_dual]
    iintro ⟨Ht, Hs, Hr⟩
    isplitl [Ht]; · iexact Ht
    isplitl [Hs]; · iexists f; iexact Hs
    iexact Hr
  rw [toL, flip (fun k => slotPts c (succ16 k) fullShare f), flip (fun k => reached ER (recvCell c k) 0), zip, zip]
  exact bigSep_mono fun k _ => h k

/-- The copies' inputs. -/
theorem copyIns :
    iprop(bigSep Finset.univ (sendPay X c) ∗ bigSep Finset.univ (barPay (F := F) c)
        ∗ (bigSep Finset.univ fun k => dutyTok ER (sendCell c k) 0 0) ∗ (bigSep Finset.univ fun k => dutyTok ER (recvCell (tgt c k) k) 0 0)
        ∗ (bigSep Finset.univ fun k => reached ER (sendCell c k) 0)) ⊢ bigSepL ks (copyIn X c) := by
  rw [toL, zip, zip, zip, zip]
  exact Entails.of_eq rfl

/-- The waits' inputs. -/
theorem waitIns :
    iprop(bigSepL ks (fun k => cred (tallyAt (sendCell c k) () N)) ∗ (bigSep Finset.univ fun k => cred (tallyAt (recvCell c k) () N))
        ∗ (bigSep Finset.univ fun k => atPos ER (sendCell c k) 0 ∅ 0) ∗ (bigSep Finset.univ fun k => atPos ER (recvCell c k) 0 ∅ 0))
      ⊢ (bigSepL ks (waitIn (F := F) c) : sProp 𝕄) := by
  rw [toL, toL, zip, zip, zip]
  exact Entails.of_eq rfl

/-- The waits' outcomes. -/
theorem waitOuts : bigSepL ks (waitOut X c)
    ⊢ iprop(bigSep Finset.univ (sendPay X c) ∗ (bigSep Finset.univ fun k => slotPts c (succ16 k) fullShare (gath X c))
      ∗ bigSepL ks (fun k => iprop(atPos ER (sendCell c k) (0 + 1) ∅ 0 ∗ atPos ER (recvCell c k) (0 + 1) ∅ 0))) := by
  rw [toL, toL, zip, zip]
  exact Entails.of_eq rfl

/-- The four families of an opened device's own cells. -/
theorem ownPos : (bigSep Finset.univ fun k => iprop((atPos ER (sendCell c k) 0 ∅ 0 ∗ reached ER (sendCell c k) 0)
        ∗ (atPos ER (recvCell c k) 0 ∅ 0 ∗ reached ER (recvCell c k) 0)) : sProp 𝕄)
    ⊢ iprop(((bigSep Finset.univ fun k => atPos ER (sendCell c k) 0 ∅ 0) ∗ (bigSep Finset.univ fun k => reached ER (sendCell c k) 0))
      ∗ ((bigSep Finset.univ fun k => atPos ER (recvCell c k) 0 ∅ 0) ∗ (bigSep Finset.univ fun k => reached ER (recvCell c k) 0))) := by
  rw [zip, zip, zip]

/-- The last step: the gathered sums, the block and the rows are read, the result is written. -/
theorem finishRun (g b : Vec F S1x512 .bf16) (f3 : Vec F S768x512 .bf16) (Q : PUnit → sProp 𝕄) :
    iprop(scrPts c (gath X c) ∗ buf c cc0_stg1_0 g ∗ buf c cc0_stg2_0 b ∗ buf c cc0_stg3_0 f3
        ∗ ((scrPts c (gath X c) ∗ buf c cc0_stg1_0 g ∗ buf c cc0_stg2_0 b ∗ buf c cc0_stg3_0 (out X c g b)) -∗ |={Set.univ}=> Q ⟨⟩))
      ⊢ wp frame (wpE (defs₀ (F := F)) 𝒱₀ c none) Set.univ
          (finish (Memref.whole cc0_stg0_0) (Memref.whole cc0_stg1_0) (Memref.whole cc0_stg2_0) (Memref.whole cc0_stg3_0) (Memref.isWhole_whole _) (X c)) Q := by
  unfold finish
  iintro ⟨Hs, Hg, Hb, Ho, Hk⟩
  iapply (wp_load 𝒱₀ (c : Thread nD τ) none Set.univ (m := Memref.whole cc0_scratch0) (S := Finset.univ) (f := gath X c) (Finset.subset_univ _)) $$ Hs
  iintro Hs
  rw [show (Memref.whole cc0_scratch0).view.readAt (Elt F) (Rect.unit (s := S16x2x768) ![0, 0, 0] S16x2x768.size inb_S16x2x768_S16x2x768_0_0_0).toLoadRect (gath X c) = (gath X c) from
    Memref.readAt_unit_zero (Elt F) cc0_scratch0 (off := ![0, 0, 0]) (by decide) inb_S16x2x768_S16x2x768_0_0_0 (gath X c)]
  iapply (wp_load 𝒱₀ (c : Thread nD τ) none Set.univ (m := Memref.whole cc0_stg1_0) (S := Finset.univ) (f := g) (Finset.subset_univ _)) $$ Hg
  iintro Hg
  rw [show (Memref.whole cc0_stg1_0).view.readAt (Elt F) (Rect.unit (s := S1x512) ![0, 0] S1x512.size inb_S1x512_S1x512_0_0).toLoadRect g = g from
    Memref.readAt_unit_zero (Elt F) cc0_stg1_0 (off := ![0, 0]) (by decide) inb_S1x512_S1x512_0_0 g]
  iapply (wp_load 𝒱₀ (c : Thread nD τ) none Set.univ (m := Memref.whole cc0_stg2_0) (S := Finset.univ) (f := b) (Finset.subset_univ _)) $$ Hb
  iintro Hb
  rw [show (Memref.whole cc0_stg2_0).view.readAt (Elt F) (Rect.unit (s := S1x512) ![0, 0] S1x512.size inb_S1x512_S1x512_0_0).toLoadRect b = b from
    Memref.readAt_unit_zero (Elt F) cc0_stg2_0 (off := ![0, 0]) (by decide) inb_S1x512_S1x512_0_0 b]
  iapply (wp_load 𝒱₀ (c : Thread nD τ) none Set.univ (m := Memref.whole cc0_stg3_0) (S := Finset.univ) (f := f3) (Finset.subset_univ _)) $$ Ho
  iintro Ho
  iapply (wp_store 𝒱₀ (c : Thread nD τ) none Set.univ (m := Memref.whole cc0_stg3_0)
    (r := Rect.unit (s := S768x512) ![0, 0] S768x512.size inb_S768x512_S768x512_0_0) (S := Finset.univ) (f := f3) (Finset.subset_univ _)) $$ Ho
  iintro Ho
  have hw : ((((Memref.whole cc0_stg3_0).access (Rect.unit (s := S768x512) ![0, 0] S768x512.size inb_S768x512_S768x512_0_0) : View sig .tc _ _ _).loc
      (c : Thread nD τ)) ↦{fullShare} (((Memref.whole cc0_stg3_0).access (Rect.unit (s := S768x512) ![0, 0] S768x512.size
        inb_S768x512_S768x512_0_0) : View sig .tc _ _ _).write (Elt F) f3 (k0_pay1 (k0_pay4 (k0_pay2 (X c)) (gath X c) g) b) Finset.univ))
      ⊢ (buf c cc0_stg3_0 (out X c g b) : sProp 𝕄) :=
    Entails.of_eq (congrArg (fun w => (buf c cc0_stg3_0 w : sProp 𝕄))
      (Memref.write_access_unit_zero_univ (Elt F) cc0_stg3_0 (off := ![0, 0]) (by decide) inb_S768x512_S768x512_0_0 f3 (out X c g b)))
  ihave Ho := hw $$ Ho
  rw [wp_ret]
  iapply Hk
  isplitl [Hs]; · iexact Hs
  isplitl [Hg]; · iexact Hg
  isplitl [Hb]; · iexact Hb
  iexact Ho

end Cert.KernelIdeal.Body

end
-- ==== Proof.KernelValue.lean ====
/-
  One entry of the kernel's result at the extended reals: from the entry of the own block, the row's two sums over all sixteen
  devices' blocks, and the two parameters of its column.
-/
module

public import proofs.«01_k».proof.Proof.Run
public import Idealize.ShloMosaic.Lib.Pointwise

@[expose] public section

noncomputable section

namespace Cert.KernelIdeal.Body

open Idealize.ShloMosaic Idealize.ShloMosaic.TcCoe
open Cert.KernelIdeal.Gen

set_option maxRecDepth 16384

/-- A device's first partial sum of a row, -/
theorem part_sum (x : Vec Ideal S768x512 .bf16) (r : Fin 768) :
    k0_pay3 (F := Ideal) x (ix3 0 0 r) = ∑ l : Fin 512, x (ix2 r l) := by
  pointwise [k0_pay3, k0_pay2]
/-- and its second, of the squares. -/
theorem part_sq (x : Vec Ideal S768x512 .bf16) (r : Fin 768) :
    k0_pay3 (F := Ideal) x (ix3 0 1 r) = ∑ l : Fin 512, x (ix2 r l) * x (ix2 r l) := by
  pointwise [k0_pay3, k0_pay2]

/-- A device's slots come from each device once: its own first, then each lower neighbour round the ring. -/
theorem from16_bijective : ∀ c : Dev nD, Function.Bijective (from16 c) := by
  have h : ∀ (c : Dev nD) (j : Fin 16), from16 c (from16 c j) = j := by decide +kernel
  exact fun c => ⟨fun a b hab => by rw [← h c a, ← h c b, hab], fun d => ⟨from16 c d, h c d⟩⟩

variable (X : Dev nD → Vec Ideal S768x512 .bf16) (c : Dev nD) (g b : Vec Ideal S1x512 .bf16)

/-- A row's sum over the slots is its sum over the devices, -/
theorem slots_sum (r : Fin 768) :
    ∑ j : Fin 16, gath (F := Ideal) X c (ix3 j 0 r) = ∑ d : Dev nD, ∑ l : Fin 512, X d (ix2 r l) := by
  refine .trans (Finset.sum_congr rfl fun j _ => ?_) ((from16_bijective c).sum_comp fun d => ∑ l : Fin 512, X d (ix2 r l))
  rw [gath_apply X c _ j rfl, ← part_sum]
  exact congrArg _ (Shape.idx3_ext rfl rfl rfl)
/-- and so is the sum of its squares. -/
theorem slots_sq (r : Fin 768) :
    ∑ j : Fin 16, gath (F := Ideal) X c (ix3 j 1 r) = ∑ d : Dev nD, ∑ l : Fin 512, X d (ix2 r l) * X d (ix2 r l) := by
  refine .trans (Finset.sum_congr rfl fun j _ => ?_) ((from16_bijective c).sum_comp fun d => ∑ l : Fin 512, X d (ix2 r l) * X d (ix2 r l))
  rw [gath_apply X c _ j rfl, ← part_sq]
  exact congrArg _ (Shape.idx3_ext rfl rfl rfl)

/-- The value of an entry: `x` of it, `s` and `q` of its row, `u` and `v` of its column; `w` the reciprocal of the row's length, `e`
    what the variance is raised by. -/
def entryOf (w e x s q u v : EReal) : EReal :=
  (x * Ideal.rsqrt (q * w - s * w * (s * w) + e) + (0 - s * w) * Ideal.rsqrt (q * w - s * w * (s * w) + e)) * u + v

theorem out_entry (r : Fin 768) (l : Fin 512) : out (F := Ideal) X c g b (ix2 r l)
    = entryOf (Ideal.ofBits .f32 0x39000000#32) (Ideal.ofBits .f32 0x3727C5AC#32) (X c (ix2 r l))
        (∑ d : Dev nD, ∑ l : Fin 512, X d (ix2 r l)) (∑ d : Dev nD, ∑ l : Fin 512, X d (ix2 r l) * X d (ix2 r l))
        (g (ix2 0 l)) (b (ix2 0 l)) := by
  rw [← slots_sum X c r, ← slots_sq X c r]
  unfold out entryOf
  pointwise [k0_pay1, k0_pay2, k0_pay4]

end Cert.KernelIdeal.Body

end
-- ==== Proof.Norm.lean ====
/-
  The mathematics of a normalised row of finite numbers: the mean of the squares less the squared mean is the mean of the squared
  deviations, and a product with the reciprocal root is a quotient by the root.
-/
module

public import Idealize.ShloMosaic.PureOps.Ideal.Laws
public import Mathlib.Algebra.Order.BigOperators.Group.Finset

@[expose] public section

noncomputable section

namespace Cert.Norm

open Idealize.ShloMosaic

/-! ## The constants -/

theorem inv_n : Ideal.ofBits .f32 0x39000000#32 = (((1 : ℝ) / 8192 : ℝ) : EReal) := by
  simp [Ideal.ofBits, Ideal.ieee, -EReal.coe_mul]; norm_num
theorem n_val : Ideal.ofBits .f32 0x46000000#32 = ((8192 : ℝ) : EReal) := by
  simp [Ideal.ofBits, Ideal.ieee, -EReal.coe_mul]; norm_num
theorem eps_pos : ∃ e : ℝ, 0 < e ∧ Ideal.ofBits .f32 0x3727C5AC#32 = (e : EReal) := by
  simp [Ideal.ofBits, Ideal.ieee, -EReal.coe_mul]

theorem top_val : Ideal.ofBits .bf16 0x7F80#16 = (⊤ : EReal) := by
  simp [Ideal.ofBits, Ideal.ieee]

/-! ## Real rows -/

variable {ι : Type} [Fintype ι] (x : ι → ℝ) (n : ℝ)

/-- The mean of the squared deviations, by the mean of the squares. -/
theorem variance (hn : n ≠ 0) (hc : (Fintype.card ι : ℝ) = n) :
    (∑ i, (x i - (∑ j, x j) / n) * (x i - (∑ j, x j) / n)) / n
      = (∑ i, x i * x i) * (1 / n) - ((∑ j, x j) * (1 / n)) * ((∑ j, x j) * (1 / n)) := by
  generalize hS : ∑ j, x j = S
  have e : ∀ i, (x i - S / n) * (x i - S / n) = x i * x i - x i * (2 * (S / n)) + S / n * (S / n) := fun i => by ring
  rw [Finset.sum_congr rfl fun i _ => e i, Finset.sum_add_distrib, Finset.sum_sub_distrib, ← Finset.sum_mul, hS,
    Finset.sum_const, Finset.card_univ, nsmul_eq_mul, hc]
  field_simp
  ring

theorem variance_nonneg (m : ℝ) (hn : 0 < n) : 0 ≤ (∑ i, (x i - m) * (x i - m)) / n :=
  div_nonneg (Finset.sum_nonneg fun i _ => mul_self_nonneg _) hn.le

/-! ## Extended reals -/

/-- A sum of reals, taken in the extended reals. -/
theorem coe_sum (f : ι → ℝ) : (∑ i, (f i : EReal)) = ((∑ i, f i : ℝ) : EReal) := by
  classical
  induction (Finset.univ : Finset ι) using Finset.induction_on with
  | empty => simp
  | insert i s hi ih => rw [Finset.sum_insert hi, Finset.sum_insert hi, ih, EReal.coe_add]

theorem rsqrt_pos (v : ℝ) (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr h.le), if_neg h.ne']
theorem sqrt_pos (v : ℝ) (h : 0 < v) : Ideal.sqrt (v : EReal) = ((Real.sqrt v : ℝ) : EReal) := by
  show (if v < 0 then ⊥ else ((Real.sqrt v : ℝ) : EReal)) = _
  rw [if_neg (not_lt.mpr h.le)]
theorem div_real (a : EReal) (v : ℝ) (h : v ≠ 0) : Ideal.div a (v : EReal) = a * ((v⁻¹ : ℝ) : EReal) := by
  rw [Ideal.div_coe h, one_div]

/-- One entry, as the kernel computes it from the row's two sums, is the entry as the reference computes it. -/
theorem entry (hc : Fintype.card ι = 8192) (i : ι) (g b : EReal) (e : ℝ) (he : 0 < e) :
    ((x i : EReal) * Ideal.rsqrt ((∑ j, (x j : EReal) * (x j : EReal)) * ((1 / 8192 : ℝ) : EReal)
          - ((∑ j, (x j : EReal)) * ((1 / 8192 : ℝ) : EReal)) * ((∑ j, (x j : EReal)) * ((1 / 8192 : ℝ) : EReal)) + (e : EReal))
        + (0 - (∑ j, (x j : EReal)) * ((1 / 8192 : ℝ) : EReal))
          * Ideal.rsqrt ((∑ j, (x j : EReal) * (x j : EReal)) * ((1 / 8192 : ℝ) : EReal)
          - ((∑ j, (x j : EReal)) * ((1 / 8192 : ℝ) : EReal)) * ((∑ j, (x j : EReal)) * ((1 / 8192 : ℝ) : EReal)) + (e : EReal))) * g + b
      = Ideal.div (g * ((x i : EReal) - Ideal.div (∑ j, (x j : EReal)) ((8192 : ℝ) : EReal)))
          (Ideal.sqrt (Ideal.div (∑ k, ((x k : EReal) - Ideal.div (∑ j, (x j : EReal)) ((8192 : ℝ) : EReal))
              * ((x k : EReal) - Ideal.div (∑ j, (x j : EReal)) ((8192 : ℝ) : EReal))) ((8192 : ℝ) : EReal) + (e : EReal))) + b := by
  have h8 : (8192 : ℝ) ≠ 0 := by norm_num
  have hmean : Ideal.div (∑ j, (x j : EReal)) ((8192 : ℝ) : EReal) = (((∑ j, x j) / 8192 : ℝ) : EReal) := by
    rw [coe_sum, div_real _ _ h8, ← EReal.coe_mul, div_eq_mul_inv]
  have hv := variance x 8192 h8 (by rw [hc]; norm_num)
  have hnn := variance_nonneg x 8192 ((∑ j, x j) / 8192) (by norm_num)
  rw [hmean]
  simp only [← EReal.coe_mul, ← EReal.coe_sub, coe_sum]
  rw [div_real _ _ h8, ← EReal.coe_mul, ← div_eq_mul_inv]
  simp only [← EReal.coe_add]
  rw [← hv]
  generalize (∑ i, (x i - (∑ j, x j) / 8192) * (x i - (∑ j, x j) / 8192)) / 8192 = v at hnn
  have hp : 0 < v + e := by linarith
  rw [rsqrt_pos _ hp, sqrt_pos _ hp, div_real _ _ (Real.sqrt_pos.mpr hp).ne', ← EReal.coe_zero]
  simp only [← EReal.coe_mul, ← EReal.coe_sub, ← EReal.coe_add]
  congr 1
  rw [mul_assoc, ← EReal.coe_mul, mul_comm g]
  congr 2
  ring

end Cert.Norm

end
-- ==== Proof.RefValue.lean ====
/-
  The reference's run at the extended reals, its result read entry by entry; and its frame.
-/
module

public import proofs.«01_k».proof.Proof.Gen.ReferenceIdeal.Run
public import proofs.«01_k».proof.Proof.Norm
public import Idealize.ShloMosaic.Lib.Quiescent
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem

set_option maxRecDepth 16384

/-- The value of an entry, of the array `x` at row `r` and column `l`, and of the parameters at the column. -/
def entryOf (x : Vec Ideal S768x8192 .bf16) (g b : Vec Ideal S8192 .bf16) (r : Fin 768) (l : Fin 8192) : EReal :=
  Ideal.div (g (ix1 l) * (x (ix2 r l) - Ideal.div (∑ j : Fin 8192, x (ix2 r j)) (Ideal.ofBits .f32 0x46000000#32)))
    (Ideal.sqrt (Ideal.div (∑ k : Fin 8192, (x (ix2 r k) - Ideal.div (∑ j : Fin 8192, x (ix2 r j)) (Ideal.ofBits .f32 0x46000000#32))
        * (x (ix2 r k) - Ideal.div (∑ j : Fin 8192, x (ix2 r j)) (Ideal.ofBits .f32 0x46000000#32))) (Ideal.ofBits .f32 0x46000000#32)
      + Ideal.ofBits .f32 0x3727C5AC#32)) + b (ix1 l)

theorem run_entry (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v21) = (fun i => entryOf (m ((c.tc : Thread nD τ).loc main_arg0))
          (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 := by
  refine (θ_run defs _ _).mono (fun r h => ⟨fun c => ⟨(h c).1.trans ?_, (h c).2⟩, sem_eq_zero_of_no_sems rfl _⟩) (run m ρ)
  generalize m ((c.tc : Thread nD τ).loc main_arg0) = x
  generalize m ((c.tc : Thread nD τ).loc main_arg1) = g
  generalize m ((c.tc : Thread nD τ).loc main_arg2) = b
  funext i
  unfold entryOf
  pointwise []
  have hz : FloatOps.sitofp (F := Ideal) FTy.f32 (0#32 : BitVec 32) = (0 : EReal) := by
    show (((0#32 : BitVec 32).toInt : ℝ) : EReal) = 0
    simp
  rw [hz, sub_zero, if_pos (by rw [Norm.n_val]; exact_mod_cast (by norm_num : (0 : ℝ) < 8192)), eq_ix2 i]

end Cert.ReferenceIdeal.Value

end
-- ==== Proof.Device.lean ====
/-
  The body's run on one device: signals, own sums, the barrier wait, copies, waits and the last step, in order.
-/
module

public import proofs.«01_k».proof.Proof.Run

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → Vec F S768x512 .bf16) (κ : GSem nD τ sig → ℕ) (c : Dev nD)

/-- The waits' list is all offsets. -/
theorem list_ks : ([0, 1, 2, 3, 4, 5, 6, 7, 8, 9, 10, 11, 12, 13, 14] : List (Fin 15)) = ks := by decide +kernel

/-- After the last wait: the scratch back in one piece, the result written, the cells closed. -/
theorem tailRun (g b : Vec F S1x512 .bf16) (f3 : Vec F S768x512 .bf16) (Q : PUnit → sProp 𝕄) :
    iprop(records X κ ∗ atPos ER (barCell c) (0 + 1) ∅ 0 ∗ bigSepL ks (waitOut X c)
        ∗ slotPts c 0 (Transfers.shareDrop fullShare 15) (gath X c)
        ∗ buf c cc0_stg0_0 (X c) ∗ buf c cc0_stg1_0 g ∗ buf c cc0_stg2_0 b ∗ buf c cc0_stg3_0 f3
        ∗ (∃ W, owes (c : Thread nD τ) (0 : CellTallies nD τ sig Unit) W) ∗ (bodyPost X c g b -∗ Q ⟨⟩))
      ⊢ wp frame (wpE (defs₀ (F := F)) 𝒱₀ c none) Set.univ
          (finish (Memref.whole cc0_stg0_0) (Memref.whole cc0_stg1_0) (Memref.whole cc0_stg2_0) (Memref.whole cc0_stg3_0) (Memref.isWhole_whole _) (X c)) Q := by
  iintro ⟨#HR, Hbar, Hw, Hrem, Hx, Hg, Hb, Ho, HO, Hk⟩
  ihave Hw := (waitOuts X c) $$ Hw
  icases Hw with ⟨Hsend, Hslots, Hpos⟩
  ihave H0 := (slot0_shares X c).2 $$ [Hrem Hsend]
  · isplitl [Hrem]; · iexact Hrem
    iexact Hsend
  ihave Hscr := (Entails.of_eq (scr_slots c (gath X c)).symm) $$ [H0 Hslots]
  · isplitl [H0]; · iexact H0
    iexact Hslots
  iapply (finishRun X c g b f3 Q)
  isplitl [Hscr]; · iexact Hscr
  isplitl [Hg]; · iexact Hg
  isplitl [Hb]; · iexact Hb
  isplitl [Ho]; · iexact Ho
  iintro ⟨Hscr, Hg, Hb, Ho⟩
  imod (close X κ (barCell c)) $$ [Hbar] with Hbar
  · isplitr; · iapply (rec_bar X κ c) $$ HR
    iexact Hbar
  imod (closeAll X κ c ks) $$ [Hpos] with Hz
  · isplitr; · iexact HR
    iexact Hpos
  imodintro
  iapply Hk
  unfold bodyPost zeros
  ihave Hz := (Entails.of_eq (toL fun k => iprop(semVal (sendCell c k) 0 ∗ semVal (recvCell c k) 0))) $$ Hz
  isplitl [Hbar]; · iexact Hbar
  isplitl [Hz]; · iexact Hz
  isplitl [Hscr]; · iexists gath X c; iexact Hscr
  isplitl [Hx]; · iexact Hx
  isplitl [Hg]; · iexact Hg
  isplitl [Hb]; · iexact Hb
  isplitl [Ho]; · iexact Ho
  iexact HO

set_option maxRecDepth 4096 in
/-- The own sums into slot 0. -/
theorem ownSums (f : Vec F S16x2x768 .f32) (K : Vec F S768x512 .bf16 → PP F) (Q : PUnit → sProp 𝕄) :
    iprop(buf c cc0_stg0_0 (X c) ∗ slotPts c 0 fullShare f
        ∗ ((buf c cc0_stg0_0 (X c) ∗ slotPts c 0 fullShare (gath X c)) -∗ wp frame (wpE (defs₀ (F := F)) 𝒱₀ c none) Set.univ (K (X c)) Q))
      ⊢ wp frame (wpE (defs₀ (F := F)) 𝒱₀ c none) Set.univ
        (.op (.load (Memref.whole cc0_stg0_0) (Rect.unit (s := S768x512) ![0, 0] S768x512.size inb_S768x512_S768x512_0_0).toLoadRect (View.loadsAt_vmem h_S768x512))
          fun x =>
        .op (.load (Memref.whole cc0_scratch0) (Rect.unit (s := S16x2x768) ![0, 0, 0] S1x2x768.size inb_S16x2x768_S1x2x768_0_0_0).toLoadRect
          (View.loadsAt_vmem h_S1x2x768)) fun _ =>
        .op (.store (Memref.whole cc0_scratch0) (Rect.unit (s := S16x2x768) ![0, 0, 0] S1x2x768.size inb_S16x2x768_S1x2x768_0_0_0)
          (k0_pay3 x) Finset.univ (View.stores_vmem_bits_univ h_S1x2x768 rfl) (.inl rfl)) fun _ => K x) Q := by
  have hS : ((Memref.whole cc0_scratch0).access (Rect.unit (s := S16x2x768) ![0, 0, 0] S1x2x768.size
    inb_S16x2x768_S1x2x768_0_0_0) : View sig .tc _ _ _).set ⊆ (slotM 0).view.set := access_slot0.subset
  iintro ⟨Hx, Hs, Hk⟩
  iapply (wp_load 𝒱₀ (c : Thread nD τ) none Set.univ (m := Memref.whole cc0_stg0_0) (S := Finset.univ) (f := X c) (Finset.subset_univ _)) $$ Hx
  iintro Hx
  rw [show (Memref.whole cc0_stg0_0).view.readAt (Elt F) (Rect.unit (s := S768x512) ![0, 0] S768x512.size inb_S768x512_S768x512_0_0).toLoadRect (X c) = X c from
    Memref.readAt_unit_zero (Elt F) cc0_stg0_0 (off := ![0, 0]) (by decide) inb_S768x512_S768x512_0_0 (X c)]
  iapply (wp_load_rect 𝒱₀ (c : Thread nD τ) none Set.univ (m := Memref.whole cc0_scratch0)
    (r := Rect.unit (s := S16x2x768) ![0, 0, 0] S1x2x768.size inb_S16x2x768_S1x2x768_0_0_0) (S := (slotM 0).view.set) (f := f) hS) $$ Hs
  iintro Hs
  iapply (wp_store 𝒱₀ (c : Thread nD τ) none Set.univ (m := Memref.whole cc0_scratch0)
    (r := Rect.unit (s := S16x2x768) ![0, 0, 0] S1x2x768.size inb_S16x2x768_S1x2x768_0_0_0) (S := (slotM 0).view.set) (f := f)
    ((View.setOn_univ _).subset.trans hS)) $$ Hs
  iintro Hs
  iapply Hk
  isplitl [Hx]; · iexact Hx
  iapply (Entails.of_eq (pointsTo_congr (stored X c f))) $$ Hs

/-- The run. -/
theorem bodyRun (W : Waits sig Unit) (g b : Vec F S1x512 .bf16) (Q : PUnit → sProp 𝕄) :
    iprop(bodyPre X κ c W g b ∗ (bodyPost X c g b -∗ Q ⟨⟩))
      ⊢ wp frame (wpE (defs₀ (F := F)) 𝒱₀ c none) Set.univ
          (kbody (Memref.whole cc0_stg0_0) (Memref.whole cc0_stg1_0) (Memref.whole cc0_stg2_0) (Memref.whole cc0_stg3_0) (Memref.isWhole_whole _)) Q := by
  unfold kbody bodyPre opened credits
  rw [wp_deviceId, sigs_eq, sends_eq, list_ks]
  iintro ⟨⟨#HR, ⟨HatB, Hown, HtB, HtS, HtV⟩, ⟨HcB, HcV⟩, #Hlev, ⟨%f, Hscr⟩, Hx, Hg, Hb, ⟨%f3, Ho⟩, HO⟩, Hk⟩
  ihave Hown := (ownPos c) $$ Hown
  icases Hown with ⟨⟨HatS, HrS⟩, HatV, HrV⟩
  ihave Hscr := (Entails.of_eq (scr_slots c f)) $$ Hscr
  icases Hscr with ⟨Hs0, Hslots⟩
  ihave Hsig := (sigIns c f) $$ [HtB Hslots HrV]
  · isplitl [HtB]; · iexact HtB
    isplitl [Hslots]; · iexact Hslots
    iexact HrV
  iapply (signals X κ c W (owedC c ks) _ Q ks)
  isplitr; · iexact HR
  isplitl [Hsig]; · iexact Hsig
  isplitl [HO]; · unfold O₀; iexact HO
  iintro HO
  iapply (ownSums X c f _ Q)
  isplitl [Hx]; · iexact Hx
  isplitl [Hs0]; · iexact Hs0
  iintro ⟨Hx, Hs0⟩
  iapply (Rounds.wp_wait_rest_token 𝒱₀ ER (Rd X) (c : Thread nD τ) none (κ := κ (barCell c))
      (wpE_semWait_eq 𝒱₀ (c : Thread nD τ) none Set.univ) (Set.mem_univ _) () (O := owedC c ks) (W := W) (R := 0) (m := 0) (T := ∅)
      ((Nat.zero_add _).trans (expect_bar X c).symm)) $$ [HcB HO HatB]
  · isplitr; · iapply (rec_bar X κ c) $$ HR
    isplitl [HcB]; · iexact HcB
    isplitl [HO]; · iexact HO
    isplitr; · iapply (mayWait_bar c) $$ Hlev
    iexact HatB
  iintro ⟨HO, HatB, -, Hpay⟩
  ihave Hpay := (Entails.of_eq (rest_bar X c)) $$ Hpay
  ihave Hs0 := (slot0_shares X c).1 $$ Hs0
  icases Hs0 with ⟨Hrem, Hsend⟩
  ihave Hin := (copyIns X c) $$ [Hsend Hpay HtS HtV HrS]
  · isplitl [Hsend]; · iexact Hsend
    isplitl [Hpay]; · iexact Hpay
    isplitl [HtS]; · iexact HtS
    isplitl [HtV]; · iexact HtV
    iexact HrS
  iapply (copies X κ c _ _ Q ks)
  isplitr; · iexact HR
  isplitl [Hin]; · iexact Hin
  isplitl [HO]; · iexact HO
  iintro ⟨HcS, HO⟩
  ihave Hin := (waitIns c) $$ [HcS HcV HatS HatV]
  · isplitl [HcS]; · iexact HcS
    isplitl [HcV]; · iexact HcV
    isplitl [HatS]; · iexact HatS
    iexact HatV
  iapply (waits X κ c _ Q ks _)
  isplitr; · iexact HR
  isplitl [Hin]; · iexact Hin
  isplitl [HO]; · iexact HO
  iintro ⟨Hw, HO⟩
  iapply (tailRun X κ c g b f3 Q)
  isplitr; · iexact HR
  isplitl [HatB]; · iexact HatB
  isplitl [Hw]; · iexact Hw
  isplitl [Hrem]; · iexact Hrem
  isplitl [Hx]; · iexact Hx
  isplitl [Hg]; · iexact Hg
  isplitl [Hb]; · iexact Hb
  isplitl [Ho]; · iexact Ho
  isplitl [HO]; · iexact HO
  iexact Hk

end Cert.KernelIdeal.Body

end
-- ==== Proof.Region.lean ====
/-
  The kernel call as a region of @main: what its windows hold before and after, what the device owes across it, and the
  body's obligation, which is the run of one device.
-/
module

public import proofs.«01_k».proof.Proof.Device
public import Idealize.ShloMosaic.Lib.Pipeline.FrameTail

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## Contents -/

/-- The buffers at launch, and after the two reshapes. -/
abbrev V₀ : Valuation τ sig (Elt F) := fun b => m (c, b)
abbrev V₁ : Valuation τ sig (Elt F) := StableHlo.after hostOps0 (V₀ m c)

/-- Every device's block; the two parameter rows of a device. -/
def Xm (d : Dev nD) : Vec F S768x512 .bf16 := V m d main_arg0
def gm : Vec F S1x512 .bf16 := V m c main_v1
def bm : Vec F S1x512 .bf16 := V m c main_v2
/-- A device's result. -/
def outm : Vec F S768x512 .bf16 := out (Xm m) c (gm m c) (bm m c)

/-- What enters the region's invariant beside the scratch, and what it gives back. -/
def Xk : sProp 𝕄 := iprop((∃ κ, records (Xm m) κ ∗ opened c) ∗ credits c ∗ levAts L lv)
def Yk : sProp 𝕄 := semVal (barCell c) 0
def scrAny : sProp 𝕄 := iprop(∃ f, scrPts c f)

def dat (c : Dev nD) : Dat τ (Elt F) Unit ℕ UU ℕ cfg0 c where
  A w := V m c (Pipeline.arrRef spec0 w)
  after w _ := match w with
    | 0 => Xm m c
    | 1 => gm m c
    | 2 => bm m c
    | 3 => outm m c
    | ⟨_ + 4, h⟩ => absurd h (Nat.not_lt.2 (Nat.le_add_left _ _))
  Φ t := if t.val = 0 then iprop(Xk m c ∗ scrAny c ∗ ∃ r, prngReg c r) else iprop(Yk c ∗ zeros c ∗ scrAny c ∗ ∃ r, prngReg c r)
  q _ := fullShare
  owed t := if t.val = 0 then O₀ c else 0

theorem owed_zero : (dat m c).owed 0 = O₀ c := by
  show (if ((0 : Fin (cfg0.N + 1)).val = 0) then O₀ c else 0) = O₀ c; exact if_pos rfl
theorem owed_first : (dat m c).owed (t0_0 : Fin cfg0.N).castSucc = O₀ c := by
  show (if (((t0_0 : Fin cfg0.N).castSucc : Fin (cfg0.N + 1)).val = 0) then O₀ c else 0) = O₀ c; exact if_pos rfl
theorem owed_last : (dat m c).owed (Fin.last _) = 0 := by
  show (if (Fin.last cfg0.N).val = 0 then O₀ c else 0) = 0
  rw [Fin.val_last, if_neg (by rw [show cfg0.N = 1 from N_0]; decide)]

theorem owesAt_in (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0]
  iintro HO; iexists W
  isplitr; · ipureintro; exact fun _ _ => Or.inl trivial
  iexact HO
theorem owesAt_out (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩; iexists W; iexact HO

/-! ## What the staging buffers hold -/

theorem read0 : iblk m c 0 t0_0 = Xm m c :=
  Memref.read_access_unit_zero (Elt F) main_arg0 (funext fun a => Nat.zero_mul _) _ (V m c main_arg0)
theorem read1 : iblk m c 1 t0_0 = gm m c :=
  Memref.read_access_unit_zero (Elt F) main_v1 (funext fun a => Nat.zero_mul _) _ (V m c main_v1)
theorem read2 : iblk m c 2 t0_0 = bm m c :=
  Memref.read_access_unit_zero (Elt F) main_v2 (funext fun a => Nat.zero_mul _) _ (V m c main_v2)

theorem before0 (d) : (dat m c).before 0 t0_0 d = Xm m c := (if_pos (fetch0_0 t0_0)).trans (read0 m c)
theorem before1 (d) : (dat m c).before 1 t0_0 d = gm m c := (if_pos (fetch0_1 t0_0)).trans (read1 m c)
theorem before2 (d) : (dat m c).before 2 t0_0 d = bm m c := (if_pos (fetch0_2 t0_0)).trans (read2 m c)

/-- The result array after the region. -/
theorem arr_out : (dat m c).arrAt 3 cfg0.N = outm m c := by
  have h : cfg0.N = (t0_0 : Fin cfg0.N).val + 1 := N_0
  rw [h, Dat.arrAt_succ]
  refine (if_pos (flush0_3 _)).trans ?_
  exact Memref.write_access_unit_zero_univ (Elt F) main_v3 (funext fun a => Nat.zero_mul _) _ _ (outm m c)

/-! ## The body's obligation -/

theorem body_at (t : Fin cfg0.N) : defs₀ (F := F) .tc cfg0.body (cfg0.bodyArgs t (cfg0.slots t))
    = kbody (Memref.whole cc0_stg0_0) (Memref.whole cc0_stg1_0) (Memref.whole cc0_stg2_0) (Memref.whole cc0_stg3_0) (Memref.isWhole_whole _) :=
  cc0_body_eq _ (Memref.isWhole_whole cc0_stg0_0) _ (Memref.isWhole_whole cc0_stg1_0) _ (Memref.isWhole_whole cc0_stg2_0) _
    (Memref.isWhole_whole cc0_stg3_0)

theorem owned {b : Ref sig .tc} (f : Buf (Elt F) ((c : Thread nD τ).loc b)) :
    (owns (c : Thread nD τ) (Memref.whole b) fullShare f : sProp 𝕄) = buf c b f := owns_whole _ _ _ _

theorem body : BodyObligation (dat m c) defs₀ 𝒱₀ () Set.univ := fun t => by
  obtain rfl : t = t0_0 := fin_N0 t
  rw [bigSep_W0, bigSep_W0, body_at]
  rw [show (dat m c).Φ (t0_0 : Fin cfg0.N).castSucc = iprop(Xk m c ∗ scrAny c ∗ ∃ r, prngReg c r) from rfl,
    show (dat m c).Φ (t0_0 : Fin cfg0.N).succ = iprop(Yk c ∗ zeros c ∗ scrAny c ∗ ∃ r, prngReg c r) from rfl]
  show iprop((Xk m c ∗ scrAny c ∗ ∃ r, prngReg c r) ∗ (dat m c).owesAt () (t0_0 : Fin cfg0.N).castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d)))
    ⊢ wp frame _ _ _ fun _ => iprop((Yk c ∗ zeros c ∗ scrAny c ∗ ∃ r, prngReg c r) ∗ (dat m c).owesAt () (t0_0 : Fin cfg0.N).succ
      ∗ owns (c : Thread nD τ) (Memref.whole cc0_stg0_0) fullShare (Xm m c)
      ∗ owns (c : Thread nD τ) (Memref.whole cc0_stg1_0) fullShare (gm m c)
      ∗ owns (c : Thread nD τ) (Memref.whole cc0_stg2_0) fullShare (bm m c)
      ∗ owns (c : Thread nD τ) (Memref.whole cc0_stg3_0) fullShare (outm m c))
  unfold Xk scrAny
  iintro ⟨⟨⟨⟨%κ, #HR, Hg⟩, Hc, #Hlev⟩, Hs, Hreg⟩, HO, ⟨%d0, H0⟩, ⟨%d1, H1⟩, ⟨%d2, H2⟩, ⟨%d3, H3⟩⟩
  rw [before0, before1, before2]
  ihave H0 := (Entails.of_eq (owned (F := F) c (Xm m c))) $$ H0
  ihave H1 := (Entails.of_eq (owned (F := F) c (gm m c))) $$ H1
  ihave H2 := (Entails.of_eq (owned (F := F) c (bm m c))) $$ H2
  ihave H3 := (Entails.of_eq (owned (F := F) c ((dat m c).before 3 t0_0 d3))) $$ H3
  ihave HO' := (owesAt_out m c _ (O₀ c) (owed_first m c)) $$ HO
  icases HO' with ⟨%W, HO⟩
  iapply (bodyRun (Xm m) κ c W (gm m c) (bm m c) _)
  isplitl [Hg Hc Hs H0 H1 H2 H3 HO]
  · unfold bodyPre
    isplitr; · iexact HR
    isplitl [Hg]; · iexact Hg
    isplitl [Hc]; · iexact Hc
    isplitr; · iexact Hlev
    isplitl [Hs]; · iexact Hs
    isplitl [H0]; · iexact H0
    isplitl [H1]; · iexact H1
    isplitl [H2]; · iexact H2
    isplitl [H3]; · iexists _; iexact H3
    iexact HO
  unfold bodyPost Yk
  iintro ⟨Hb, Hz, Hs, H0, H1, H2, H3, ⟨%W', HO⟩⟩
  isplitl [Hb Hz Hs Hreg]
  · isplitl [Hb]; · iexact Hb
    isplitl [Hz]; · iexact Hz
    isplitl [Hs]; · iexact Hs
    iexact Hreg
  isplitl [HO]; · iapply (owesAt_in m c (t0_0 : Fin cfg0.N).succ 0 (owed_last m c) W') $$ HO
  rw [owned, owned, owned, owned]
  isplitl [H0]; · iexact H0
  isplitl [H1]; · iexact H1
  isplitl [H2]; · iexact H2
  iexact H3

end Cert.KernelIdeal.Body

end
-- ==== Proof.Segments.lean ====
/-
  The region as a segment of @main: how its own semaphores are opened at the entry and come back at the exit, and which buffers
  it leaves how.
-/
module

public import proofs.«01_k».proof.Proof.Region
public import Idealize.ShloMosaic.Lib.Pipeline.RegionTalk
public import Idealize.ShloMosaic.Lib.Pipeline.RegionArraysS

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs arrRefs arrRef afterRegion)
open Cert.KernelIdeal.Gen

variable {F : FTy → Type} [FloatOps F]

local notation "𝕄" => MT nD τ sig Unit (Elt F) ℕ UU ℕ

variable (m : (ℓ : Loc nD τ sig) → Buf (Elt F) ℓ) (c : Dev nD)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

/-- The buffers after the region. -/
abbrev V₂ : Valuation τ sig (Elt F) := afterRegion (dat m c) (V₁ m c)
/-- The buffers the region does not touch. -/
abbrev rest : Finset (DevRef τ sig) := ucRefs τ sig \ arrRefs spec0

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The region's own semaphores -/

/-- A family over the own semaphores, offset by offset. -/
theorem own_split (Φ : SemLoc sig → sProp 𝕄) :
    (bigSep Finset.univ fun p => Φ (osem p)) = bigSep Finset.univ fun k => iprop(Φ (.dma (sendSem k)) ∗ Φ (.dma (recvSem k))) := by
  rw [bigSep_univ_prod, BI.bigSep_fin_two, ← zip]; rfl

theorem ownSems_eq : (Pipeline.ownSems0 osem c : sProp 𝕄) = zeros c := own_split fun sm => semVal ((c : Thread nD τ), sm) 0

/-- The rights to open the own cells. -/
def opens : sProp 𝕄 := bigSep Finset.univ fun k => iprop(openTok ER (sendCell c k) ∗ openTok ER (recvCell c k))
/-- The tokens of the duties this device pays. -/
def duties : sProp 𝕄 :=
  iprop((bigSep Finset.univ fun k => dutyTok ER (barCell (tgt c k)) 0 (dual k))
    ∗ (bigSep Finset.univ fun k => dutyTok ER (sendCell c k) 0 0)
    ∗ (bigSep Finset.univ fun k => dutyTok ER (recvCell (tgt c k) k) 0 0))
/-- What stays with the device of the ghost state from launch. -/
def linear : sProp 𝕄 := iprop(atPos ER (barCell c) 0 ∅ 0 ∗ opens c ∗ duties c)
/-- What the launch keeps for the region. -/
def Tk : sProp 𝕄 := iprop((∃ κ, records (Xm m) κ ∗ linear c) ∗ credits c)

theorem open_own (X : Dev nD → Vec F S768x512 .bf16) (κ : GSem nD τ sig → ℕ) :
    iprop(records X κ ∗ opens c ∗ zeros c)
      ⊢ (|={Set.univ}=> bigSep Finset.univ fun k => iprop((atPos ER (sendCell c k) 0 ∅ 0 ∗ reached ER (sendCell c k) 0)
        ∗ (atPos ER (recvCell c k) 0 ∅ 0 ∗ reached ER (recvCell c k) 0)) : sProp 𝕄) := by
  have e := openAll (F := F) X κ c ks
  rw [toL, toL] at e
  have h : iprop(opens c ∗ zeros c) ⊢ (bigSep Finset.univ fun k => iprop((openTok ER (sendCell c k) ∗ semVal (sendCell c k) 0)
        ∗ (openTok ER (recvCell c k) ∗ semVal (recvCell c k) 0)) : sProp 𝕄) := by
    unfold opens zeros
    rw [← zip, ← zip, ← zip, ← zip, ← zip]
    iintro ⟨⟨H1, H2⟩, H3, H4⟩
    isplitl [H1 H3]
    · isplitl [H1] <;> iassumption
    isplitl [H2] <;> iassumption
  iintro ⟨#HR, Ho, Hz⟩
  iapply e
  isplitr; · iexact HR
  iapply h
  isplitl [Ho] <;> iassumption

theorem hopen : iprop(Tk m c ∗ Pipeline.ownSems0 osem c ∗ levAts L lv) ⊢ (|={Set.univ}=> Xk m c : sProp 𝕄) := by
  rw [ownSems_eq]
  unfold Tk Xk linear opened duties
  iintro ⟨⟨⟨%κ, #HR, Hat, Ho, Hd⟩, Hc⟩, Hz, #Hlev⟩
  imod (open_own c (Xm m) κ) $$ [Ho Hz] with Hp
  · isplitr; · iexact HR
    isplitl [Ho] <;> iassumption
  imodintro
  isplitl [Hat Hp Hd]
  · iexists κ
    isplitr; · iexact HR
    isplitl [Hat]; · iexact Hat
    isplitl [Hp]; · iexact Hp
    iexact Hd
  isplitl [Hc]; · iexact Hc
  iexact Hlev

theorem held_none (W : Valuation τ sig (Elt F)) : (StableHlo.held (c : Thread nD τ) ∅ W : sProp 𝕄) = BI.emp := by
  unfold StableHlo.held; exact BI.bigSep_empty

theorem scoped_eq : (Pipeline.scopedRest (Ix := Unit) (Name := ℕ) (U := UU) (Lvl := ℕ) (Val := Elt F)
    (Pipeline.pin (pcfgs (F := F)) adm 0).spec c : sProp 𝕄) = scrAny c := scopedRest0_eq c

theorem hin : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scrAny c ∗ ∃ r, prngReg c r) from rfl, scoped_eq]
  iintro ⟨Hs, Hp, -, HX⟩
  isplitl [HX]; · iexact HX
  isplitl [Hs] <;> iassumption

theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(Yk c ∗ zeros c ∗ scrAny c ∗ ∃ r, prngReg c r) from rfl, scoped_eq, ownSems_eq, held_none]
  iintro ⟨HY, Hz, Hs, Hp⟩
  isplitl [Hs]; · iexact Hs
  isplitl [Hp]; · iexact Hp
  isplitr; · iempintro
  isplitl [Hz] <;> iassumption

/-! ## The levels -/

theorem cut_owed (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos c h with ⟨k, rfl⟩ | ⟨k, rfl⟩
    · exact ⟨by rw [L_tc]; exact Finset.mem_singleton_self _, by rw [lv_recv]; exact Nat.two_pos⟩
    · exact ⟨by rw [L_tc]; exact Finset.mem_singleton_self _, by rw [lv_bar]; exact Nat.one_pos⟩
  · exact absurd h (Nat.lt_irrefl 0)

theorem lv_stage : ∀ (w : Fin cfg0.W) (s : Fin (cfg0.win w).nbuf), lvR (role (.dma ((cfg0.win w).sem s))) = 0 := by decide

theorem cut : Pipeline.LevelCutOwed (pcfgs (F := F)) adm (pdats m) () L lv 0 (fun _ => 0) where
  hι c w s := by rw [L_tc]; exact Finset.mem_singleton_self _
  hιb c w s := le_of_eq (lv_stage w s)
  hD c t g i h := cut_owed m c t g i h

/-! ## The segments -/

theorem ops_sub : ∀ op ∈ (hostOps0 : List (HloOp τ sig (Elt F))), op.bufs ⊆ ucRefs τ sig := fun op h =>
  Pipeline.sub_ucRefs op (List.forall_iff_forall_mem.mp hostOps0_sub op h)

/-- What rides beside the buffers up to the region. -/
def R : sProp 𝕄 := iprop((∃ r, prngReg c r) ∗ Tk m c ∗ ∃ W, owes (c : Thread nD τ) (O₀ c) W)

def seg0 : ℍ := Pipeline.HostSeg.ofOps _ _ _ _ _ (ucRefs τ sig) hostOps0 ops_sub (List.forall_iff_forall_mem.mp hostOps0_fresh) (V₀ m) (R m)

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ rest (Finset.empty_subset _) launch0.toP rfl (fun c => (body m c).loose)
    (fun _ => 0) O₀ (fun c => (owed_zero m c).trans (zero_add _).symm) (owed_last m) (fun _ => rfl)
    (fun c w => Dat.share_full (dat m c) (fun _ => rfl) w)
    (V₁ m) (V₂ m) (fun c b hb => Pipeline.afterRegion_off (dat m c) (V₁ m c) (ucRefs τ sig) b (Finset.mem_sdiff.mp hb).1)
    (Tk m) Yk (Xk m) Yk (hopen m) (hin m) (hout m)
    (fun c => by iintro H; imodintro; iexact H)
    (fun _ => 0) (cut m)
    (fun _ => iprop(emp))
    (fun _ _ => rfl) (fun c w => (Pipeline.afterRegion_arr (dat m c) (V₁ m c) launch0.win.arr_inj w).symm)

theorem held_all (W : Valuation τ sig (Elt F)) : (StableHlo.held (c : Thread nD τ) (ucRefs τ sig) W : sProp 𝕄)
    = iprop(StableHlo.held (c : Thread nD τ) (arrRefs (τ := τ) (pcfgs (F := F) 0).spec) W ∗ StableHlo.held (c : Thread nD τ) rest W) :=
  StableHlo.held_sub_split (c : Thread nD τ) (Pipeline.arrRefs_sub_ucRefs spec0 (by decide)) W

theorem reg0_pre : iprop(StableHlo.held (c : Thread nD τ) (ucRefs τ sig) (V₁ m c) ∗ R m c) ⊢ (reg0 m).pre c := by
  show _ ⊢ iprop(StableHlo.held (c.tc : Thread nD τ) (arrRefs (τ := τ) (pcfgs (F := F) 0).spec) (V₁ m c) ∗ (∃ r, prngReg c r)
    ∗ (StableHlo.held (c.tc : Thread nD τ) rest (V₁ m c) ∗ emp) ∗ Tk m c ∗ ∃ Wd, owes (c : Thread nD τ) (0 + O₀ c) Wd)
  rw [held_all, zero_add]
  unfold R
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg0_post : (reg0 m).post c
    ⊢ iprop((StableHlo.held (c : Thread nD τ) (ucRefs τ sig) (V₂ m c) ∗ semVal (barCell c) 0)
      ∗ ∃ W, owes (c : Thread nD τ) (0 : CellTallies nD τ sig Unit) W) := by
  show iprop(StableHlo.held (c.tc : Thread nD τ) (arrRefs (τ := τ) (pcfgs (F := F) 0).spec) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [held_all]
  unfold Yk
  iintro ⟨Ha, -, ⟨Hr, -⟩, Hb, HO⟩
  isplitr [HO]
  · isplitl [Ha Hr]
    · isplitl [Ha] <;> iassumption
    iexact Hb
  iexact HO

/-- @main as the list. -/
def segs : List (Pipeline.Seg (pcfgs (F := F)) adm (pdats m) () defs₀ 𝒱₀ L lv) := [.host (seg0 m), .region (reg0 m)]

theorem main_eq : main (F := F) c = Pipeline.Seg.run (segs m) :=
  main_segs adm (pdats m) () 𝒱₀ L lv (seg0 m) (reg0 m) rfl c

end Cert.KernelIdeal.Body

end
-- ==== Proof.Credit.lean ====
/-
  What the launch deals to every device: the credit it will wait with, summed over what all devices owe it, and the tokens
  of the duties it pays at the other devices' cells.
-/
module

public import proofs.«01_k».proof.Proof.Segments

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs arrRefs arrRef afterRegion)
open Cert.KernelIdeal.Gen

variable {F : FTy → Type} [FloatOps F]

local notation "𝕄" => MT nD τ sig Unit (Elt F) ℕ UU ℕ

variable (c : Dev nD)

/-! ## What is owed to one cell -/

theorem owedC_at (d : Dev nD) (l : List (Fin 15)) (g : GSem nD τ sig) :
    owedC d l g () = (l.map fun k => tallyAt (recvCell (tgt d k) k) () N g ()).sum := by
  induction l with
  | nil => rfl
  | cons k l ih =>
    unfold owedC
    rw [Pi.add_apply, Finsupp.add_apply, ih, List.map_cons, List.sum_cons, Nat.add_comm]

theorem owedS_at (d : Dev nD) (base : CellTallies nD τ sig Unit) (l : List (Fin 15)) (g : GSem nD τ sig) :
    owedS d base l g () = base g () + (l.map fun k => tallyAt (barCell (tgt d k)) () 1 g ()).sum := by
  induction l with
  | nil => rfl
  | cons k l ih =>
    unfold owedS
    rw [Pi.add_apply, Finsupp.add_apply, ih, List.map_cons, List.sum_cons, Nat.add_assoc, Nat.add_comm (tallyAt _ _ _ _ _)]

theorem owed_at (d : Dev nD) (g : GSem nD τ sig) : O₀ d g ()
    = (∑ k : Fin 15, tallyAt (recvCell (tgt d k) k) () N g ()) + ∑ k : Fin 15, tallyAt (barCell (tgt d k)) () 1 g () := by
  unfold O₀
  rw [owedS_at, owedC_at, Fin.sum_univ_def, Fin.sum_univ_def]

theorem dev_of {c d : Dev nD} {s t : SemLoc sig} (h : (((c : Thread nD τ), s) : GSem nD τ sig) = ((d : Thread nD τ), t)) : c = d :=
  congrArg (fun g : GSem nD τ sig => g.1.1) h
theorem sem_of {c d : Dev nD} {s t : SemLoc sig} (h : (((c : Thread nD τ), s) : GSem nD τ sig) = ((d : Thread nD τ), t)) : s = t :=
  congrArg Prod.snd h

theorem owed_bar (d : Dev nD) : O₀ d (barCell c) () = ∑ k : Fin 15, if c = tgt d k then 1 else 0 := by
  rw [owed_at, Finset.sum_eq_zero fun k _ => by
    rw [tallyAt_ne_cell (fun h => recv_ne_bar k (sem_of h).symm)]; rfl, Nat.zero_add]
  refine Finset.sum_congr rfl fun k _ => ?_
  rw [tallyAt_apply]
  by_cases h : c = tgt d k
  · rw [if_pos h, if_pos ⟨congrArg barCell h, rfl⟩]
  · rw [if_neg h, if_neg fun e => h (dev_of e.1)]

theorem owed_recv (k : Fin 15) (d : Dev nD) : O₀ d (recvCell c k) () = if d = src c k then N else 0 := by
  rw [owed_at, Finset.sum_eq_zero (f := fun k' => tallyAt (barCell (tgt d k')) () 1 (recvCell c k) ()) fun k' _ => by
    rw [tallyAt_ne_cell (fun h => recv_ne_bar k (sem_of h))]; rfl, Nat.add_zero]
  rw [Finset.sum_eq_single k]
  · rw [tallyAt_apply]
    by_cases h : d = src c k
    · subst h; rw [tgt_src, if_pos ⟨rfl, rfl⟩, if_pos rfl]
    · rw [if_neg h, if_neg fun e => h (by rw [dev_of e.1, src_tgt])]
  · intro k' _ hk
    rw [tallyAt_apply, if_neg fun e => hk (recvSem_inj (SemLoc.dma.inj (sem_of e.1))).symm]
  · exact fun h => absurd (Finset.mem_univ k) h

theorem count_bar : ∀ c : Dev nD, (∑ d : Dev nD, ∑ k : Fin 15, if c = tgt d k then 1 else 0) = 15 := by decide +kernel

theorem launch_bar :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar c d, count_bar]

theorem launch_recv (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv c k d,
    Finset.sum_ite_eq' Finset.univ (src c k) fun _ => N, if_pos (Finset.mem_univ _)]

def recvEmb : Fin 15 ↪ SemLoc sig := ⟨fun k => .dma (recvSem k), fun _ _ h => recvSem_inj (SemLoc.dma.inj h)⟩

theorem creds : (Pipeline.launchCred O₀ c : sProp 𝕄) ⊢ credits c := by
  have hs : Finset.univ.map recvEmb ⊆ Finset.univ.erase (SemLoc.reg barSem : SemLoc sig) := fun sm h => by
    obtain ⟨k, -, rfl⟩ := Finset.mem_map.mp h
    exact Finset.mem_erase.mpr ⟨recv_ne_bar k, Finset.mem_univ _⟩
  unfold Pipeline.launchCred credits
  rw [bigSep_univ_at _ (SemLoc.reg barSem), launch_bar]
  refine sep_mono_right ?_
  have e : (bigSep Finset.univ fun k => cred (tallyAt (recvCell c k) () N) : sProp 𝕄) = bigSep (Finset.univ.map recvEmb)
      fun sm => cred (tallyOn ((c.tc : Thread nD τ), sm) (launchCredit (Pipeline.owing O₀) 0 ((c.tc : Thread nD τ), sm))) := by
    rw [bigSep_map]
    exact bigSep_congr fun k _ => congrArg _ (launch_recv c k).symm
  rw [e]
  exact bigSep_subset hs

/-! ## The tokens -/

/-- A duty by its kind: at the barrier, the send or the receive side. -/
abbrev tokSem : Fin 3 × Fin 15 → SemLoc sig := fun p =>
  if p.1 = 0 then .reg barSem else if p.1 = 1 then .dma (sendSem p.2) else .dma (recvSem p.2)
abbrev tokDuty : Fin 3 × Fin 15 → Fin 15 := fun p => if p.1 = 0 then p.2 else 0
theorem tok_inj : Function.Injective (fun p : Fin 3 × Fin 15 => (tokSem p, tokDuty p)) := by decide +kernel
def tokens : Finset (GSem nD τ sig × ℕ × Fin 15) :=
  Finset.univ.map ⟨fun p : Dev nD × (Fin 3 × Fin 15) => (((p.1 : Thread nD τ), tokSem p.2), 0, tokDuty p.2), fun _ _ h =>
    Prod.ext (congrArg (fun t : GSem nD τ sig × ℕ × Fin 15 => t.1.1.1) h)
      (tok_inj (Prod.ext (congrArg (fun t : GSem nD τ sig × ℕ × Fin 15 => t.1.2) h) (congrArg (fun t : GSem nD τ sig × ℕ × Fin 15 => t.2.2) h)))⟩

/-- The tokens of the duties at one device's cells. -/
def toks : sProp 𝕄 :=
  iprop((bigSep Finset.univ fun k => dutyTok ER (barCell c) 0 k)
    ∗ (bigSep Finset.univ fun k => dutyTok ER (sendCell c k) 0 0)
    ∗ (bigSep Finset.univ fun k => dutyTok ER (recvCell c k) 0 0))

theorem bigSep_three (Φ : Fin 3 → sProp 𝕄) : bigSep Finset.univ Φ = iprop(Φ 0 ∗ Φ 1 ∗ Φ 2) :=
  bigSep_univ_eq_bigSepL [0, 1, 2] (by decide) (by decide) Φ

theorem toks_eq : bigSep tokens (fun x => (dutyTok ER x.1 x.2.1 x.2.2 : sProp 𝕄)) = bigSep Finset.univ fun c : Dev nD => toks c := by
  unfold tokens; rw [bigSep_map, bigSep_univ_prod]
  exact bigSep_congr fun c _ => by unfold toks; rw [bigSep_univ_prod, bigSep_three]; rfl

/-- The barrier duty of offset `j` at `c` belongs to the device `c` signals at the offset that leads back; -/
def barAround : Dev nD × Fin 15 ≃ Dev nD × Fin 15 where
  toFun p := (tgt p.1 p.2, dual p.2)
  invFun p := (tgt p.1 p.2, dual p.2)
  left_inv p := Prod.ext (tgt_dual p.1 p.2) (dual_dual p.2)
  right_inv p := Prod.ext (tgt_dual p.1 p.2) (dual_dual p.2)
/-- a receive duty to the device that sends there. -/
def recvAround : Dev nD × Fin 15 ≃ Dev nD × Fin 15 where
  toFun p := (tgt p.1 p.2, p.2)
  invFun p := (src p.1 p.2, p.2)
  left_inv p := Prod.ext (src_tgt p.1 p.2) rfl
  right_inv p := Prod.ext (tgt_src p.1 p.2) rfl

theorem around (e : Dev nD × Fin 15 ≃ Dev nD × Fin 15) (Φ : Dev nD × Fin 15 → sProp 𝕄) :
    (bigSep Finset.univ fun c : Dev nD => bigSep Finset.univ fun k => Φ (c, k))
      = bigSep Finset.univ fun c : Dev nD => bigSep Finset.univ fun k => Φ (e (c, k)) := by
  rw [← bigSep_univ_prod, ← bigSep_univ_prod (fun p => Φ (e p))]
  exact bigSep_univ_equiv e Φ

/-- Every token to the device that pays its duty. -/
theorem toks_around : (bigSep Finset.univ fun c : Dev nD => (toks c : sProp 𝕄)) = bigSep Finset.univ fun c : Dev nD => duties c := by
  unfold toks duties
  rw [bigSep_sep', bigSep_sep', bigSep_sep', bigSep_sep',
    around barAround (fun p => dutyTok ER (barCell p.1) 0 p.2), around recvAround (fun p => dutyTok ER (recvCell p.1 p.2) 0 0)]
  rfl

end Cert.KernelIdeal.Body

end
-- ==== Proof.Launch.lean ====
/-
  The run of @main on the mesh: the launch allocates every cell's invariant and deals the ghost state, the segments follow,
  and the final memory and counters are read off.
-/
module

public import proofs.«01_k».proof.Proof.Credit
public import Idealize.ShloMosaic.Harness.Basic

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs arrRefs arrRef afterRegion)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem unscopedSems_eq : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

theorem unscoped_eq : ∀ sm : SemLoc sig, sm.isScoped .tc = false → sm = .reg barSem := by decide +kernel

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The launch element: the pipeline's at its staging cells, the protocol's at its own. -/
abbrev protoElt : URounds (GSem nD τ sig) (Fin 15) := launchOf barCells ownCells tokens
def u₀ : UU :=
  (initOf (Pipeline.cells (Pipeline.pin (pcfgs (F := F)) adm) cellOf_inj) (Pipeline.launchToks (Pipeline.pin (pcfgs (F := F)) adm) cellOf_inj),
    protoElt)

/-- The protocol's launch element, kept with device 0 until the global step. -/
def G (c : Dev nD) : sProp 𝕄 := if c = 0 then BI.own (ER protoElt) else iprop(emp)
theorem G_all : bigSep Finset.univ (G (F := F)) = BI.own (ER protoElt) := by
  rw [bigSep_univ_at _ (0 : Dev nD), bigSep_congr (s := Finset.univ.erase 0) (Ψ := fun _ => (BI.emp : sProp 𝕄))
    fun c hc => (show G (F := F) c = _ from if_neg (Finset.ne_of_mem_erase hc)), BI.bigSep_emp_const]
  unfold G; rw [if_pos rfl]
  exact BI.equiv_iff.mp sep_emp

abbrev T₀ : sProp 𝕄 := iprop(StableHlo.held (c : Thread nD τ) (ucRefs τ sig) (V₀ m c) ∗ R m c)
abbrev Tₙ : sProp 𝕄 := iprop(StableHlo.held (c : Thread nD τ) (ucRefs τ sig) (V₂ m c) ∗ semVal (barCell c) 0)

/-- What of a core's launch holdings is not the protocol's. -/
def bundle : sProp 𝕄 :=
  iprop(StableHlo.held (c : Thread nD τ) (ucRefs τ sig) (V₀ m c) ∗ credits c ∗ owes (c : Thread nD τ) (O₀ c) ∅ ∗ ∃ r, prngReg c r)

theorem T₀_intro (κ : GSem nD τ sig → ℕ) : iprop(records (Xm m) κ ∗ (linear c ∗ bundle m c)) ⊢ T₀ m c := by
  unfold bundle T₀ R Tk
  iintro ⟨#HR, Hl, Hh, Hc, HO, Hp⟩
  isplitl [Hh]; · iexact Hh
  isplitl [Hp]; · iexact Hp
  isplitr [HO]
  · isplitl [Hl]
    · iexists κ
      isplitr; · iexact HR
      iexact Hl
    iexact Hc
  · iexists ∅; iexact HO

abbrev start : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem start_split : start m ρ c ⊢ (iprop(bundle m c ∗ (semVal (barCell c) 0 ∗ G c)) : sProp 𝕄) := by
  unfold start
  rw [show unscopedBufs c (fun b => m ((c : Thread nD τ).loc b)) = StableHlo.held (c : Thread nD τ) (ucRefs τ sig) (V₀ m c) from
    Pipeline.unscopedBufs_held c (V₀ m c), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem opens_of : bigSep ownCells (fun g => (openTok ER g : sProp 𝕄)) = bigSep Finset.univ fun c : Dev nD => opens c := by
  rw [bigSep_map, bigSep_univ_prod]
  exact bigSep_congr fun c _ => own_split fun sm => openTok ER ((c : Thread nD τ), sm)

theorem init :
    iprop((bigSep Finset.univ fun c : Dev nD => start m ρ c) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hs : (bigSep Finset.univ fun c : Dev nD => start m ρ c)
      ⊢ (bigSep Finset.univ fun c : Dev nD => iprop(bundle m c ∗ (semVal (barCell c) 0 ∗ G c)) : sProp 𝕄) :=
    bigSep_mono fun c _ => start_split m ρ c
  iintro ⟨H, -⟩
  ihave H' := hs $$ H
  ihave H2 := Smoke.bigSep_unpair $$ H'; icases H2 with ⟨HB, H3⟩
  ihave H4 := Smoke.bigSep_unpair $$ H3; icases H4 with ⟨Hv, HG⟩
  ihave Hu := (Entails.of_eq (G_all (F := F))) $$ HG
  imod (Rounds.fund_launch ER (Rd (Xm m)) disjoint_cells (fun g _ h => h) tokens) $$ [Hv Hu] with ⟨%κ, -, #Hinv, #Hr, Hat, Hopen, Htok⟩
  · isplitl [Hv]
    · iapply hv $$ Hv
    · iexact Hu
  imodintro
  iapply (bigSep_with_persistent (R := records (Xm m) κ) (Φ := fun c => iprop(linear c ∗ bundle m c)) fun c _ => T₀_intro m c κ)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hopen]; · iapply (Entails.of_eq (opens_of (F := F))) $$ Hopen
    iapply (Entails.of_eq (toks_around (F := F)))
    iapply (Entails.of_eq (toks_eq (F := F))) $$ Htok
  · iexact HB

/-! ## What the final memory holds -/

theorem V₂_in (r : Ref sig .tc) (h : ∀ w, arrRef cfg0.spec w = r → (cfg0.win w).isOut = false) : V₂ m c r = V m c r :=
  Pipeline.afterRegion_keeps (dat m c) (V₁ m c) launch0.win.arr_inj (fun _ => rfl) r h
theorem V₂_arg0 : V₂ m c main_arg0 = m ((c : Thread nD τ).loc main_arg0) := (V₂_in m c main_arg0 (by decide)).trans (V_main_arg0 m c)
theorem V₂_arg1 : V₂ m c main_arg1 = m ((c : Thread nD τ).loc main_arg1) := (V₂_in m c main_arg1 (by decide)).trans (V_main_arg1 m c)
theorem V₂_arg2 : V₂ m c main_arg2 = m ((c : Thread nD τ).loc main_arg2) := (V₂_in m c main_arg2 (by decide)).trans (V_main_arg2 m c)
theorem V₂_out : V₂ m c main_v3 = outm m c := (Pipeline.afterRegion_arr (dat m c) (V₁ m c) launch0.win.arr_inj 3).trans (arr_out m c)

/-- The buffers the claims speak of. -/
abbrev spoken : List (DevRef τ sig) := [Proc.devRef .tc main_arg0, Proc.devRef .tc main_arg1, Proc.devRef .tc main_arg2, Proc.devRef .tc main_v3]

theorem held_spoken (W : Valuation τ sig (Elt F)) : (StableHlo.held (c : Thread nD τ) (ucRefs τ sig) W : sProp 𝕄)
    ⊢ iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v3) ↦{fullShare} W main_v3)) := by
  have hs : spoken.toFinset ⊆ ucRefs τ sig := by decide +kernel
  rw [StableHlo.held_sub_split (c : Thread nD τ) hs W]
  have e : (StableHlo.held (c : Thread nD τ) spoken.toFinset W : sProp 𝕄)
      = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v3) ↦{fullShare} W main_v3)) := by
    unfold StableHlo.held
    rw [bigSep_eq_bigSepL_of_eq spoken rfl (by decide)]
    rfl
  rw [e]
  iintro ⟨H, -⟩
  iexact H

set_option backward.isDefEq.respectTransparency.types false in
/-- The run: it terminates, the arguments stay, every device's result is `outm`, every counter is back at zero. -/
theorem run_main : θ_run (defs (F := F)) (onTc (τ := τ) (main (F := F))) (s₀ m ρ)
    (fun r => (∀ c : Dev nD, r.2.mem ((c : Thread nD τ).loc main_v3) = outm m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_v3) = V₂ m c main_v3
        ∧ s.mem ((c : Thread nD τ).loc main_arg0) = V₂ m c main_arg0
        ∧ s.mem ((c : Thread nD τ).loc main_arg1) = V₂ m c main_arg1
        ∧ s.mem ((c : Thread nD τ).loc main_arg2) = V₂ m c main_arg2)
      ∧ s.sem (barCell c) = 0)
    (hfin := fun c s' => by
      dsimp only [Tₙ]
      iintro ⟨⟨Hh, Hb⟩, HSI⟩
      ihave Hh' := (held_spoken c (V₂ m c)) $$ Hh
      icases Hh' with ⟨H0, H1, H2, H3⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h3, Buf.eq_of_forall_mem_univ h0, Buf.eq_of_forall_mem_univ h1, Buf.eq_of_forall_mem_univ h2⟩,
          by simpa using hb⟩
      iexact HSI)
    (hQ := fun s h hs => ⟨fun c => by
        obtain ⟨⟨h3, h0, h1, h2⟩, -⟩ := h c
        exact ⟨h3.trans (V₂_out m c), h0.trans (V₂_arg0 m c), h1.trans (V₂_arg1 m c), h2.trans (V₂_arg2 m c)⟩,
      sem_eq_zero hs fun c sm hsm => by
        obtain rfl := unscoped_eq sm hsm
        exact (h c).2⟩)

end Cert.KernelIdeal.Body

end
-- ==== Proof.Value.lean ====
/-
  The kernel's result is the reference's, block by block: every row of the whole array is finite, and a row's sum over the devices'
  blocks is its sum over the whole row.
-/
module

public import proofs.«01_k».proof.Proof.KernelValue
public import proofs.«01_k».proof.Proof.RefValue
public import proofs.«01_k».proof.Proof.Launch
public import proofs.«01_k».proof.Defs
public import Idealize.ShloMosaic.Lib.StableHlo.Run
public import Idealize.ShloMosaic.Lib.Layout

@[expose] public section

noncomputable section

namespace Cert.KernelIdeal.Body

open Idealize.ShloMosaic Idealize.ShloMosaic.TcCoe
open Cert.KernelIdeal.Gen

set_option maxRecDepth 16384

/-! ## The two reshapes -/

variable (m : (ℓ : Loc nD τ sig) → Buf (Elt Ideal) ℓ) (c : Dev nD)

theorem gm_eq : gm m c = shapeCast S1x512 (m ((c : Thread nD τ).loc main_arg1)) shapeCasts_S512_S1x512 := by
  unfold gm V hostOps0
  after_results_simp
  rfl
theorem bm_eq : bm m c = shapeCast S1x512 (m ((c : Thread nD τ).loc main_arg2)) shapeCasts_S512_S1x512 := by
  unfold bm V hostOps0
  after_results_simp
  rfl
theorem gm_entry (l : Fin 512) : gm m c (ix2 0 l) = m ((c : Thread nD τ).loc main_arg1) (ix1 l) := by
  rw [gm_eq]
  pointwise []
theorem bm_entry (l : Fin 512) : bm m c (ix2 0 l) = m ((c : Thread nD τ).loc main_arg2) (ix1 l) := by
  rw [bm_eq]
  pointwise []

/-! ## Columns -/

/-- Column `l` of device `d`'s block, in the whole array. -/
def col (d : Fin 16) (l : Fin 512) : Fin 8192 := ⟨d.val * 512 + l.val, by omega⟩

theorem sum_cols (f : Fin 8192 → EReal) : ∑ d : Fin 16, ∑ l : Fin 512, f (col d l) = ∑ j : Fin 8192, f j := by
  rw [← Fintype.sum_prod_type' fun d l => f (col d l)]
  refine Fintype.sum_equiv (finProdFinEquiv (m := 16) (n := 512)) _ _ fun p => congrArg f (Fin.ext ?_)
  show p.1.val * 512 + p.2.val = p.2.val + 512 * p.1.val
  omega

theorem block2 (d : Fin 16) (v : (⟨2, ![768, 8192]⟩ : Shape).Idx → EReal) (h : Layout.Tiles ⟨2, ![768, 512]⟩ ⟨2, ![768, 8192]⟩ 1 16)
    (r : Fin 768) (l : Fin 512) : Layout.block ⟨2, ![768, 512]⟩ ⟨2, ![768, 8192]⟩ 1 16 d v h (ix2 r l) = v (ix2 r (col d l)) := by
  rw [Layout.block_apply]
  refine congrArg v (funext fun a => Fin.ext ?_)
  match a with
  | ⟨0, _⟩ => rfl
  | ⟨1, _⟩ => rfl
theorem block1 (d : Fin 16) (v : (⟨1, ![8192]⟩ : Shape).Idx → EReal) (h : Layout.Tiles ⟨1, ![512]⟩ ⟨1, ![8192]⟩ 0 16)
    (l : Fin 512) : Layout.block ⟨1, ![512]⟩ ⟨1, ![8192]⟩ 0 16 d v h (ix1 l) = v (ix1 (col d l)) := by
  rw [Layout.block_apply]
  refine congrArg v (funext fun a => Fin.ext ?_)
  match a with
  | ⟨0, _⟩ => rfl

/-! ## The entries agree -/

/-- Of a whole array with finite rows, the kernel's entry is the reference's. -/
theorem entries (x : (⟨2, ![768, 8192]⟩ : Shape).Idx → EReal) (g b : (⟨1, ![8192]⟩ : Shape).Idx → EReal)
    (hx : ∀ r j, ∃ y : ℝ, x (ix2 r j) = (y : EReal)) (r : Fin 768) (j : Fin 8192) :
    entryOf (Ideal.ofBits .f32 0x39000000#32) (Ideal.ofBits .f32 0x3727C5AC#32) (x (ix2 r j))
        (∑ k : Fin 8192, x (ix2 r k)) (∑ k : Fin 8192, x (ix2 r k) * x (ix2 r k)) (g (ix1 j)) (b (ix1 j))
      = Cert.ReferenceIdeal.Value.entryOf x g b r j := by
  choose y hy using hx
  obtain ⟨e, he, hee⟩ := Norm.eps_pos
  unfold entryOf Cert.ReferenceIdeal.Value.entryOf
  rw [hee, Norm.inv_n, Norm.n_val]
  simp only [hy]
  exact Norm.entry (y r) (Fintype.card_fin _) j _ _ e he

/-- A device's result, of its blocks of whole arrays, is its block of the reference's result. -/
theorem outm_block (x : (⟨2, ![768, 8192]⟩ : Shape).Idx → EReal) (g b : (⟨1, ![8192]⟩ : Shape).Idx → EReal)
    (h2 : Layout.Tiles ⟨2, ![768, 512]⟩ ⟨2, ![768, 8192]⟩ 1 16) (h1 : Layout.Tiles ⟨1, ![512]⟩ ⟨1, ![8192]⟩ 0 16)
    (hx : ∀ d : Dev nD, m ((d : Thread nD τ).loc main_arg0) = Layout.block ⟨2, ![768, 512]⟩ ⟨2, ![768, 8192]⟩ 1 16 d x h2)
    (hg : ∀ d : Dev nD, m ((d : Thread nD τ).loc main_arg1) = Layout.block ⟨1, ![512]⟩ ⟨1, ![8192]⟩ 0 16 d g h1)
    (hb : ∀ d : Dev nD, m ((d : Thread nD τ).loc main_arg2) = Layout.block ⟨1, ![512]⟩ ⟨1, ![8192]⟩ 0 16 d b h1)
    (hfin : ∀ r j, ∃ y : ℝ, x (ix2 r j) = (y : EReal)) :
    outm m c = Layout.block ⟨2, ![768, 512]⟩ ⟨2, ![768, 8192]⟩ 1 16 c
      (fun i => Cert.ReferenceIdeal.Value.entryOf x g b (i 0) (i 1)) h2 := by
  have hX : ∀ (d : Dev nD) (r : Fin 768) (l : Fin 512), Xm m d (ix2 r l) = x (ix2 r (col d l)) := fun d r l => by
    unfold Xm; rw [V_main_arg0, hx d]; exact block2 d x h2 r l
  funext i
  obtain ⟨r, l, rfl⟩ : ∃ (r : Fin 768) (l : Fin 512), i = ix2 r l := ⟨i 0, i 1, eq_ix2 i⟩
  rw [block2]
  unfold outm
  rw [out_entry, gm_entry, bm_entry, hg c, hb c, block1, block1]
  simp only [hX]
  rw [sum_cols fun j => x (ix2 r j), sum_cols fun j => x (ix2 r j) * x (ix2 r j)]
  exact entries x g b hfin r (col c l)

/-! ## The precondition -/

/-- The precondition's side condition. -/
theorem pre_facts : Cert.Pre_finite_x_KernelIdeal.Facts := ⟨by decide⟩

/-- Every entry of a block is a real number, under the precondition. -/
theorem finite_block (h : Cert.Pre_finite_x_KernelIdeal.Facts)
    (x : Vec Ideal S768x512 .bf16) (g b : Vec Ideal ⟨1, ![512]⟩ .bf16)
    (hp : Cert.Pre_finite_x_KernelIdeal.fn (F := Ideal) x g b = fun _ => 1#1) (i : S768x512.Idx) : ∃ y : ℝ, x i = (y : EReal) := by
  have hi := congrFun hp i
  unfold Cert.Pre_finite_x_KernelIdeal.fn at hi
  pointwise [] at hi
  rw [Norm.top_val] at hi
  have hlt : max (x i) (-x i) < (⊤ : EReal) := by
    by_contra hn
    change BitVec.ofBool (@decide (max (x i) (-x i) < (⊤ : EReal)) _) = 1#1 at hi
    rw [decide_eq_false hn] at hi
    exact absurd hi (by decide)
  obtain ⟨h1, h2⟩ := max_lt_iff.mp hlt
  refine ⟨(x i).toReal, (EReal.coe_toReal h1.ne fun e => ?_).symm⟩
  rw [e, EReal.neg_bot] at h2
  exact h2.ne rfl

/-- Every entry of the whole array is one of some device's block. -/
theorem finite_whole (x : (⟨2, ![768, 8192]⟩ : Shape).Idx → EReal) (h2 : Layout.Tiles ⟨2, ![768, 512]⟩ ⟨2, ![768, 8192]⟩ 1 16)
    (h : ∀ (d : Dev nD) (i : S768x512.Idx), ∃ y : ℝ, Layout.block ⟨2, ![768, 512]⟩ ⟨2, ![768, 8192]⟩ 1 16 d x h2 i = (y : EReal))
    (r : Fin 768) (j : Fin 8192) : ∃ y : ℝ, x (ix2 r j) = (y : EReal) := by
  have e := h (⟨j.val / 512, by have := j.isLt; show _ < 16; omega⟩ : Fin 16) (ix2 r ⟨j.val % 512, Nat.mod_lt _ (by decide)⟩)
  rw [block2] at e
  have hc : col ⟨j.val / 512, by omega⟩ ⟨j.val % 512, Nat.mod_lt _ (by decide)⟩ = j := Fin.ext (Nat.div_add_mod' _ _)
  rwa [hc] at e

end Cert.KernelIdeal.Body

end
-- ==== Proof.Text.lean ====
/-
  The kernel as lowered and the kernel read at the extended reals have one text: their tables of bodies are equal.
-/
module

public import proofs.«01_k».proof.Proof.Gen.Kernel
public import proofs.«01_k».proof.Proof.Gen.KernelIdeal

@[expose] public section

noncomputable section

namespace Cert.Text

open Idealize.ShloMosaic

variable {F : FTy → Type} [FloatOps F]

/-- The kernels' bodies, label by label, -/
theorem defs₀_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F)
    (Λ := Cert.KernelIdeal.Λ₀)) ?_
  funext l a
  match l, a with
  | ⟨0, _⟩, (t, s) => rfl

/-- and with the pipelines' bodies. -/
theorem defs_eq : Cert.Kernel.defs (F := F) = Cert.KernelIdeal.defs (F := F) := by
  unfold Cert.Kernel.defs Cert.KernelIdeal.defs
  rw [defs₀_eq]
  rfl

end Cert.Text

end
-- ==== Proof.lean ====
module

public import proofs.«01_k».proof.Defs
public import proofs.«01_k».proof.Proof.Gen.ReferenceIdeal.Run
public import proofs.«01_k».proof.Proof.Value
public import proofs.«01_k».proof.Proof.Text
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem

/-- The precondition's side condition, over the whole arrays. -/
theorem pre_facts_ref : Cert.Pre_finite_x_ReferenceIdeal.Facts := ⟨by decide⟩

attribute [local instance] Cert.Kernel.Gen.facts Cert.KernelIdeal.Gen.facts Cert.ReferenceIdeal.Gen.facts
  Cert.KernelIdeal.Body.pre_facts

/-- The kernel as lowered ends with its arguments unchanged and its counters at zero: its text is the text the run is proved of. -/
theorem frame_kernel : Cert.quiescent_Kernel := fun m ρ _ => by
  rw [Cert.Text.defs_eq]
  exact (θ_run Cert.KernelIdeal.defs _ _).mono (fun _ h => ⟨fun c => (h.1 c).2, h.2⟩) (Cert.KernelIdeal.Body.run_main (F := Bits) m ρ)

/-- So does the kernel at the extended reals, -/
theorem frame_ideal : Cert.quiescent_KernelIdeal := fun m ρ _ =>
  (θ_run Cert.KernelIdeal.defs _ _).mono (fun _ h => ⟨fun c => (h.1 c).2, h.2⟩) (Cert.KernelIdeal.Body.run_main m ρ)

/-- and the reference. -/
theorem frame_ref : Cert.quiescent_ReferenceIdeal := fun m ρ _ =>
  (θ_run Cert.ReferenceIdeal.defs _ _).mono (fun _ h => ⟨fun c => (h.1 c).2, h.2⟩) (Cert.ReferenceIdeal.Value.run_entry m ρ)

/-- The two programs agree on finite inputs: each device ends with its block of the reference's result. -/
theorem agree : Cert.algebraic_KernelIdeal_ReferenceIdeal_pre_finite_x_KernelIdeal := fun m ρ m' ρ' hp ha => by
  refine ⟨_, (θ_run Cert.KernelIdeal.defs _ _).mono (fun r h c => ⟨(h.1 c).1.trans ?_, (h.1 c).2⟩)
    (Cert.KernelIdeal.Body.run_main m ρ), (θ_run Cert.ReferenceIdeal.defs _ _).mono (fun r h => h.1 0)
    (Cert.ReferenceIdeal.Value.run_entry m' ρ')⟩
  exact Cert.KernelIdeal.Body.outm_block m c _ _ _ _ _ (fun d => (ha d).1) (fun d => (ha d).2.1) (fun d => (ha d).2.2)
    (Cert.KernelIdeal.Body.finite_whole _ _ fun d i => (ha d).1 ▸ Cert.KernelIdeal.Body.finite_block _ _ _ _ (hp d) i)

theorem claim : Cert.Claim :=
  ⟨Cert.Kernel.Gen.facts, Cert.KernelIdeal.Gen.facts, Cert.ReferenceIdeal.Gen.facts, Cert.KernelIdeal.Body.pre_facts, pre_facts_ref,
    frame_kernel, frame_ideal, fun m ρ _ => frame_ideal m ρ trivial, frame_ref, fun m ρ _ => frame_ref m ρ trivial, trivial, agree⟩

end Cert.Proof

end
